-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S4x4096x1024 : Shape := ⟨3, ![4, 4096, 1024]⟩
abbrev S4x1024x8192 : Shape := ⟨3, ![4, 1024, 8192]⟩
abbrev S4 : Shape := ⟨1, ![4]⟩
abbrev S2 : Shape := ⟨1, ![2]⟩
abbrev S_ : Shape := ⟨0, ![]⟩
abbrev S1x4096x1024 : Shape := ⟨3, ![1, 4096, 1024]⟩
abbrev S1x1024x8192 : Shape := ⟨3, ![1, 1024, 8192]⟩
abbrev S4096x8192 : Shape := ⟨2, ![4096, 8192]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 7
  | .vmem => 8
  | .smem => 2
  | _ => 0

abbrev bufTy : (tb : Table) → Fin (tcTables nBuf tb) → BufTy
  | .hbm, ⟨0, _⟩ => ⟨S4096x1024, .fp8e5m2⟩
  | .hbm, ⟨1, _⟩ => ⟨S1024x8192, .fp8e5m2⟩
  | .hbm, ⟨2, _⟩ => ⟨S1, .f32⟩
  | .hbm, ⟨3, _⟩ => ⟨S1, .f32⟩
  | .hbm, ⟨4, _⟩ => ⟨S4x4096x1024, .fp8e5m2⟩
  | .hbm, ⟨5, _⟩ => ⟨S4x1024x8192, .fp8e5m2⟩
  | .hbm, ⟨6, _⟩ => ⟨S4096x8192, .f32⟩
  | .local _ .vmem, ⟨0, _⟩ => ⟨S4096x1024, .fp8e5m2⟩
  | .local _ .vmem, ⟨1, _⟩ => ⟨S1024x8192, .fp8e5m2⟩
  | .local _ .vmem, ⟨2, _⟩ => ⟨S4x1024x1024, .fp8e5m2⟩
  | .local _ .vmem, ⟨3, _⟩ => ⟨S4x1024x1024, .fp8e5m2⟩
  | .local _ .vmem, ⟨4, _⟩ => ⟨S4x1024x1024, .fp8e5m2⟩
  | .local _ .vmem, ⟨5, _⟩ => ⟨S4x1024x1024, .fp8e5m2⟩
  | .local _ .vmem, ⟨6, _⟩ => ⟨S1024x1024, .f32⟩
  | .local _ .vmem, ⟨7, _⟩ => ⟨S1024x1024, .f32⟩
  | .local _ .smem, ⟨0, _⟩ => ⟨S1, .f32⟩
  | .local _ .smem, ⟨1, _⟩ => ⟨S1, .f32⟩
  | _, _ => ⟨S4096x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg2_0 : Ref sig .tc := ⟨.smem, 0, rfl⟩
abbrev cc1_stg3_0 : Ref sig .tc := ⟨.smem, 1, rfl⟩
abbrev cc0_sem0_0 : DmaSem sig := 0
abbrev cc0_sem1_0 : DmaSem sig := 1
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem4_1 : DmaSem sig := 27
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_29 : BitVec 32 := 0#32
  let c0_i32_30 : BitVec 32 := 0#32
  ![v2.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_32 : BitVec 32 := 0#32
  let c0_i32_33 : BitVec 32 := 0#32
  ![v2.toNat, 0, 0]
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v51 : BitVec 32 := Scalar.addi v2 c1_i32_34
  let c4_i32_35 : BitVec 32 := 4#32
  let c0_i32_36 : BitVec 32 := 0#32
  let v52 : BitVec 1 := Scalar.cmpi .eq c4_i32_35 c0_i32_36
  let c1_i32_37 : BitVec 32 := 1#32
  let v53 : BitVec 32 := Scalar.select v52 c1_i32_37 c4_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c1_i32_43 : BitVec 32 := 1#32
  let v62 : BitVec 32 := Scalar.muli v61 c1_i32_43
  let v63 : BitVec 32 := Scalar.addi c0_i32_44 v62
  v63.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v51 : BitVec 32 := Scalar.addi v2 c1_i32_34
  let c4_i32_35 : BitVec 32 := 4#32
  let c0_i32_36 : BitVec 32 := 0#32
  let v52 : BitVec 1 := Scalar.cmpi .eq c4_i32_35 c0_i32_36
  let c1_i32_37 : BitVec 32 := 1#32
  let v53 : BitVec 32 := Scalar.select v52 c1_i32_37 c4_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c1_i32_49 : BitVec 32 := 1#32
  let v70 : BitVec 32 := Scalar.muli v61 c1_i32_49
  let v71 : BitVec 32 := Scalar.addi c0_i32_50 v70
  v71.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v78 : BitVec 32 := Scalar.addi v2 c2_i32_53
  let c4_i32_54 : BitVec 32 := 4#32
  let c0_i32_55 : BitVec 32 := 0#32
  let v79 : BitVec 1 := Scalar.cmpi .eq c4_i32_54 c0_i32_55
  let c1_i32_56 : BitVec 32 := 1#32
  let v80 : BitVec 32 := Scalar.select v79 c1_i32_56 c4_i32_54
  let v81 : BitVec 32 := Scalar.remsi v78 v80
  let c0_i32_58 : BitVec 32 := 0#32
  let v83 : BitVec 1 := Scalar.cmpi .slt v81 c0_i32_58
  let c0_i32_59 : BitVec 32 := 0#32
  let v84 : BitVec 1 := Scalar.cmpi .slt v80 c0_i32_59
  let v85 : BitVec 1 := Scalar.xori v83 v84
  let c0_i32_57 : BitVec 32 := 0#32
  let v82 : BitVec 1 := Scalar.cmpi .ne v81 c0_i32_57
  let v86 : BitVec 1 := Scalar.andi v85 v82
  let v87 : BitVec 32 := Scalar.addi v81 v80
  let v88 : BitVec 32 := Scalar.select v86 v87 v81
  let c1_i32_62 : BitVec 32 := 1#32
  let v89 : BitVec 32 := Scalar.muli v88 c1_i32_62
  let v90 : BitVec 32 := Scalar.addi c0_i32_63 v89
  v90.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v78 : BitVec 32 := Scalar.addi v2 c2_i32_53
  let c4_i32_54 : BitVec 32 := 4#32
  let c0_i32_55 : BitVec 32 := 0#32
  let v79 : BitVec 1 := Scalar.cmpi .eq c4_i32_54 c0_i32_55
  let c1_i32_56 : BitVec 32 := 1#32
  let v80 : BitVec 32 := Scalar.select v79 c1_i32_56 c4_i32_54
  let v81 : BitVec 32 := Scalar.remsi v78 v80
  let c0_i32_58 : BitVec 32 := 0#32
  let v83 : BitVec 1 := Scalar.cmpi .slt v81 c0_i32_58
  let c0_i32_59 : BitVec 32 := 0#32
  let v84 : BitVec 1 := Scalar.cmpi .slt v80 c0_i32_59
  let v85 : BitVec 1 := Scalar.xori v83 v84
  let c0_i32_57 : BitVec 32 := 0#32
  let v82 : BitVec 1 := Scalar.cmpi .ne v81 c0_i32_57
  let v86 : BitVec 1 := Scalar.andi v85 v82
  let v87 : BitVec 32 := Scalar.addi v81 v80
  let v88 : BitVec 32 := Scalar.select v86 v87 v81
  let c1_i32_68 : BitVec 32 := 1#32
  let v97 : BitVec 32 := Scalar.muli v88 c1_i32_68
  let v98 : BitVec 32 := Scalar.addi c0_i32_69 v97
  v98.toNat
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_72 : BitVec 32 := 3#32
  let v105 : BitVec 32 := Scalar.addi v2 c3_i32_72
  let c4_i32_73 : BitVec 32 := 4#32
  let c0_i32_74 : BitVec 32 := 0#32
  let v106 : BitVec 1 := Scalar.cmpi .eq c4_i32_73 c0_i32_74
  let c1_i32_75 : BitVec 32 := 1#32
  let v107 : BitVec 32 := Scalar.select v106 c1_i32_75 c4_i32_73
  let v108 : BitVec 32 := Scalar.remsi v105 v107
  let c0_i32_77 : BitVec 32 := 0#32
  let v110 : BitVec 1 := Scalar.cmpi .slt v108 c0_i32_77
  let c0_i32_78 : BitVec 32 := 0#32
  let v111 : BitVec 1 := Scalar.cmpi .slt v107 c0_i32_78
  let v112 : BitVec 1 := Scalar.xori v110 v111
  let c0_i32_76 : BitVec 32 := 0#32
  let v109 : BitVec 1 := Scalar.cmpi .ne v108 c0_i32_76
  let v113 : BitVec 1 := Scalar.andi v112 v109
  let v114 : BitVec 32 := Scalar.addi v108 v107
  let v115 : BitVec 32 := Scalar.select v113 v114 v108
  let c1_i32_81 : BitVec 32 := 1#32
  let v116 : BitVec 32 := Scalar.muli v115 c1_i32_81
  let v117 : BitVec 32 := Scalar.addi c0_i32_82 v116
  v117.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_72 : BitVec 32 := 3#32
  let v105 : BitVec 32 := Scalar.addi v2 c3_i32_72
  let c4_i32_73 : BitVec 32 := 4#32
  let c0_i32_74 : BitVec 32 := 0#32
  let v106 : BitVec 1 := Scalar.cmpi .eq c4_i32_73 c0_i32_74
  let c1_i32_75 : BitVec 32 := 1#32
  let v107 : BitVec 32 := Scalar.select v106 c1_i32_75 c4_i32_73
  let v108 : BitVec 32 := Scalar.remsi v105 v107
  let c0_i32_77 : BitVec 32 := 0#32
  let v110 : BitVec 1 := Scalar.cmpi .slt v108 c0_i32_77
  let c0_i32_78 : BitVec 32 := 0#32
  let v111 : BitVec 1 := Scalar.cmpi .slt v107 c0_i32_78
  let v112 : BitVec 1 := Scalar.xori v110 v111
  let c0_i32_76 : BitVec 32 := 0#32
  let v109 : BitVec 1 := Scalar.cmpi .ne v108 c0_i32_76
  let v113 : BitVec 1 := Scalar.andi v112 v109
  let v114 : BitVec 32 := Scalar.addi v108 v107
  let v115 : BitVec 32 := Scalar.select v113 v114 v108
  let c1_i32_87 : BitVec 32 := 1#32
  let v124 : BitVec 32 := Scalar.muli v115 c1_i32_87
  let v125 : BitVec 32 := Scalar.addi c0_i32_88 v124
  v125.toNat
def k0_off3 (d0 : Dev nD) (c1_i32_91 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v132 : BitVec 32 := Scalar.subi v2 c1_i32_91
  let c4_i32_92 : BitVec 32 := 4#32
  let c0_i32_93 : BitVec 32 := 0#32
  let v133 : BitVec 1 := Scalar.cmpi .eq c4_i32_92 c0_i32_93
  let c1_i32_94 : BitVec 32 := 1#32
  let v134 : BitVec 32 := Scalar.select v133 c1_i32_94 c4_i32_92
  let v135 : BitVec 32 := Scalar.remsi v132 v134
  let c0_i32_96 : BitVec 32 := 0#32
  let v137 : BitVec 1 := Scalar.cmpi .slt v135 c0_i32_96
  let c0_i32_97 : BitVec 32 := 0#32
  let v138 : BitVec 1 := Scalar.cmpi .slt v134 c0_i32_97
  let v139 : BitVec 1 := Scalar.xori v137 v138
  let c0_i32_95 : BitVec 32 := 0#32
  let v136 : BitVec 1 := Scalar.cmpi .ne v135 c0_i32_95
  let v140 : BitVec 1 := Scalar.andi v139 v136
  let v141 : BitVec 32 := Scalar.addi v135 v134
  let v142 : BitVec 32 := Scalar.select v140 v141 v135
  let c0_i32_102 : BitVec 32 := 0#32
  let c0_i32_103 : BitVec 32 := 0#32
  ![v142.toNat, 0, 0]
def k0_off4 (d0 : Dev nD) (c1_i32_91 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v132 : BitVec 32 := Scalar.subi v2 c1_i32_91
  let c4_i32_92 : BitVec 32 := 4#32
  let c0_i32_93 : BitVec 32 := 0#32
  let v133 : BitVec 1 := Scalar.cmpi .eq c4_i32_92 c0_i32_93
  let c1_i32_94 : BitVec 32 := 1#32
  let v134 : BitVec 32 := Scalar.select v133 c1_i32_94 c4_i32_92
  let v135 : BitVec 32 := Scalar.remsi v132 v134
  let c0_i32_96 : BitVec 32 := 0#32
  let v137 : BitVec 1 := Scalar.cmpi .slt v135 c0_i32_96
  let c0_i32_97 : BitVec 32 := 0#32
  let v138 : BitVec 1 := Scalar.cmpi .slt v134 c0_i32_97
  let v139 : BitVec 1 := Scalar.xori v137 v138
  let c0_i32_95 : BitVec 32 := 0#32
  let v136 : BitVec 1 := Scalar.cmpi .ne v135 c0_i32_95
  let v140 : BitVec 1 := Scalar.andi v139 v136
  let v141 : BitVec 32 := Scalar.addi v135 v134
  let v142 : BitVec 32 := Scalar.select v140 v141 v135
  let c0_i32_108 : BitVec 32 := 0#32
  let c0_i32_109 : BitVec 32 := 0#32
  ![v142.toNat, 0, 0]
abbrev stage0_0 : Fin 1 → Memref sig .tc .vmem S4096x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4x1024x1024 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x1024x1024 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Slots.lean ====
module

public import proofs.«01_k».proof.Proof.Gen.KernelIdeal.Launch
public import proofs.«01_k».proof.Proof.Gen.KernelIdeal.Skeleton
public import Idealize.ShloMosaic.Lib.ValueIdxCore
public import Idealize.ShloMosaic.Lib.ValueLayout
public import Idealize.ShloMosaic.Lib.Rounds
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.Sem

variable {F : FTy → Type} [FloatOps F]

/-! ## The devices of the ring -/

/-- The device `k` places after `c`. -/
def fwd (k : Fin 4) (c : Dev nD) : Dev nD := ⟨(c.val + k.val) % 4, Nat.mod_lt _ (by decide)⟩
/-- The device `k` places before `c`. -/
def bwd (k : Fin 4) (c : Dev nD) : Dev nD := ⟨(c.val + (4 - k.val)) % 4, Nat.mod_lt _ (by decide)⟩

/-- Going forward and back by `k` is staying. -/
theorem bwd_fwd (k : Fin 4) (c : Dev nD) : bwd k (fwd k c) = c := by revert k c; decide
/-- Going back and forward by `k` is staying. -/
theorem fwd_bwd (k : Fin 4) (c : Dev nD) : fwd k (bwd k c) = c := by revert k c; decide
/-- The walk by `k` places as a permutation of the devices. -/
def walk (k : Fin 4) : Dev nD ≃ Dev nD := ⟨fwd k, bwd k, bwd_fwd k, fwd_bwd k⟩

/-- The device each signal and each remote copy addresses. -/
theorem dev1_eq (c : Dev nD) : (⟨k0_dev1 c, k0_dev1_lt c⟩ : Dev nD) = fwd 1 c := by revert c; decide +kernel
theorem dev2_eq (c : Dev nD) : (⟨k0_dev2 c, k0_dev2_lt c⟩ : Dev nD) = fwd 2 c := by revert c; decide +kernel
theorem dev3_eq (c : Dev nD) : (⟨k0_dev3 c, k0_dev3_lt c⟩ : Dev nD) = fwd 3 c := by revert c; decide +kernel
theorem dev4_eq (c : Dev nD) : (⟨k0_dev4 c, k0_dev4_lt c⟩ : Dev nD) = fwd 1 c := by revert c; decide +kernel
theorem dev5_eq (c : Dev nD) : (⟨k0_dev5 c, k0_dev5_lt c⟩ : Dev nD) = fwd 1 c := by revert c; decide +kernel
theorem dev6_eq (c : Dev nD) : (⟨k0_dev6 c, k0_dev6_lt c⟩ : Dev nD) = fwd 2 c := by revert c; decide +kernel
theorem dev7_eq (c : Dev nD) : (⟨k0_dev7 c, k0_dev7_lt c⟩ : Dev nD) = fwd 2 c := by revert c; decide +kernel
theorem dev8_eq (c : Dev nD) : (⟨k0_dev8 c, k0_dev8_lt c⟩ : Dev nD) = fwd 3 c := by revert c; decide +kernel
theorem dev9_eq (c : Dev nD) : (⟨k0_dev9 c, k0_dev9_lt c⟩ : Dev nD) = fwd 3 c := by revert c; decide +kernel

/-! ## The slots of the two gathered arrays -/

/-- Slot `p` of the gathered first operand is inside it. -/
theorem inbX (p : Dev nD) : ∀ a, (![p.val, 0, 0] : Fin 3 → Nat) a + S1x4096x1024.size a ≤ S4x4096x1024.size a := by
  revert p; decide +kernel
/-- Slot `p` of the gathered second operand is inside it. -/
theorem inbW (p : Dev nD) : ∀ a, (![p.val, 0, 0] : Fin 3 → Nat) a + S1x1024x8192.size a ≤ S4x1024x8192.size a := by
  revert p; decide +kernel

/-- The block of the gathered first operand at offset `off`, as the kernel names it. -/
abbrev slotX (off : Fin 3 → Nat) (h : ∀ a, off a + S1x4096x1024.size a ≤ S4x4096x1024.size a) :
    Memref sig .tc .hbm S4096x1024 .fp8e5m2 :=
  ((Memref.whole main_v1_0).slice (Rect.unit (s := S4x4096x1024) off S1x4096x1024.size h) (fun _ => rfl)).squeeze
    S4096x1024 squeezes_S1x4096x1024_S4096x1024
/-- The block of the gathered second operand at offset `off`, as the kernel names it. -/
abbrev slotW (off : Fin 3 → Nat) (h : ∀ a, off a + S1x1024x8192.size a ≤ S4x1024x8192.size a) :
    Memref sig .tc .hbm S1024x8192 .fp8e5m2 :=
  ((Memref.whole main_v1_1).slice (Rect.unit (s := S4x1024x8192) off S1x1024x8192.size h) (fun _ => rfl)).squeeze
    S1024x8192 squeezes_S1x1024x8192_S1024x8192

/-- The elements of slot `p` of the gathered first operand. -/
def setX (p : Dev nD) : Finset S4x4096x1024.Idx := (Rect.unit (s := S4x4096x1024) ![p.val, 0, 0] S1x4096x1024.size (inbX p)).set
/-- The elements of slot `p` of the gathered second operand. -/
def setW (p : Dev nD) : Finset S4x1024x8192.Idx := (Rect.unit (s := S4x1024x8192) ![p.val, 0, 0] S1x1024x8192.size (inbW p)).set

/-- An element of the gathered first operand is in slot `p` when its first coordinate is `p`. -/
theorem mem_setX (p : Dev nD) (i : S4x4096x1024.Idx) : i ∈ setX p ↔ i 0 = p := by
  unfold setX
  rw [Rect.mem_set_unit, Fin.forall_fin_succ, Fin.forall_fin_succ, Fin.forall_fin_succ]
  have h1 : (i 1).val < 4096 := (i 1).isLt
  have h2 : (i 2).val < 1024 := (i 2).isLt
  constructor
  · rintro ⟨⟨a, b⟩, -⟩
    apply Fin.ext
    change p.val ≤ (i 0).val at a
    change (i 0).val < p.val + 1 at b
    omega
  · intro h
    subst h
    refine ⟨⟨le_refl _, Nat.lt_succ_self _⟩, ⟨Nat.zero_le _, ?_⟩, ⟨Nat.zero_le _, ?_⟩, fun a => a.elim0⟩
    · show (i 1).val < 0 + 4096; omega
    · show (i 2).val < 0 + 1024; omega

/-- An element of the gathered second operand is in slot `p` when its first coordinate is `p`. -/
theorem mem_setW (p : Dev nD) (i : S4x1024x8192.Idx) : i ∈ setW p ↔ i 0 = p := by
  unfold setW
  rw [Rect.mem_set_unit, Fin.forall_fin_succ, Fin.forall_fin_succ, Fin.forall_fin_succ]
  have h1 : (i 1).val < 1024 := (i 1).isLt
  have h2 : (i 2).val < 8192 := (i 2).isLt
  constructor
  · rintro ⟨⟨a, b⟩, -⟩
    apply Fin.ext
    change p.val ≤ (i 0).val at a
    change (i 0).val < p.val + 1 at b
    omega
  · intro h
    subst h
    refine ⟨⟨le_refl _, Nat.lt_succ_self _⟩, ⟨Nat.zero_le _, ?_⟩, ⟨Nat.zero_le _, ?_⟩, fun a => a.elim0⟩
    · show (i 1).val < 0 + 1024; omega
    · show (i 2).val < 0 + 8192; omega

/-- The slots of the first gathered operand do not meet. -/
theorem setX_disjoint {p q : Dev nD} (h : p ≠ q) : Disjoint (setX p) (setX q) :=
  Finset.disjoint_left.mpr fun i hp hq => h (((mem_setX p i).mp hp).symm.trans ((mem_setX q i).mp hq))
/-- The slots of the second gathered operand do not meet. -/
theorem setW_disjoint {p q : Dev nD} (h : p ≠ q) : Disjoint (setW p) (setW q) :=
  Finset.disjoint_left.mpr fun i hp hq => h (((mem_setW p i).mp hp).symm.trans ((mem_setW q i).mp hq))
/-- The slots of the first gathered operand cover it. -/
theorem setX_cover : Finset.univ.biUnion setX = Finset.univ :=
  Finset.eq_univ_of_forall fun i => Finset.mem_biUnion.mpr ⟨i 0, Finset.mem_univ _, (mem_setX _ i).mpr rfl⟩
/-- The slots of the second gathered operand cover it. -/
theorem setW_cover : Finset.univ.biUnion setW = Finset.univ :=
  Finset.eq_univ_of_forall fun i => Finset.mem_biUnion.mpr ⟨i 0, Finset.mem_univ _, (mem_setW _ i).mpr rfl⟩

/-- The kernel's block at offset `(p, 0, 0)` covers slot `p`. -/
theorem slotX_set (p : Dev nD) : (slotX ![p.val, 0, 0] (inbX p)).view.set = setX p := by
  exact (View.set_reshape ..).trans (View.set_slice_whole ..)
/-- The kernel's block at offset `(p, 0, 0)` covers slot `p`. -/
theorem slotW_set (p : Dev nD) : (slotW ![p.val, 0, 0] (inbW p)).view.set = setW p := by
  exact (View.set_reshape ..).trans (View.set_slice_whole ..)

/-! ## What the gather leaves -/

/-- One device's first operand; one device's second operand. -/
abbrev XBuf (F : FTy → Type) : Type := S4096x1024.Idx → Elt F .fp8e5m2
abbrev WBuf (F : FTy → Type) : Type := S1024x8192.Idx → Elt F .fp8e5m2

/-- Every device's first operand, stacked along a leading axis. -/
def gatherX (xs : Dev nD → XBuf F) : S4x4096x1024.Idx → Elt F .fp8e5m2 := fun i => xs (i 0) (ix2 (i 1) (i 2))
/-- Every device's second operand, stacked along a leading axis. -/
def gatherW (ws : Dev nD → WBuf F) : S4x1024x8192.Idx → Elt F .fp8e5m2 := fun i => ws (i 0) (ix2 (i 1) (i 2))

/-- Where index `(x, y)` of block `p` of a stack of matrices lies in the stack. -/
theorem emb_block {n a b : ℕ} (p : Fin n) (h : (⟨2, ![a, b]⟩ : Shape).numel = (⟨3, ![1, a, b]⟩ : Shape).numel)
    (hin : ∀ k, (![p.val, 0, 0] : Fin 3 → Nat) k + (⟨3, ![1, a, b]⟩ : Shape).size k ≤ (⟨3, ![n, a, b]⟩ : Shape).size k)
    (x : Fin a) (y : Fin b) :
    (Rect.unit (s := ⟨3, ![n, a, b]⟩) ![p.val, 0, 0] (⟨3, ![1, a, b]⟩ : Shape).size hin).emb (Shape.reshapeEquiv h (ix2 x y)) = ix3 p x y := by
  refine (congrArg _ (reshapeEquiv_ix2_1ab h x y)).trans ?_
  funext k
  match k with
  | ⟨0, _⟩ => apply Fin.ext; show p.val + 1 * 0 = p.val; omega
  | ⟨1, _⟩ => apply Fin.ext; show 0 + 1 * x.val = x.val; omega
  | ⟨2, _⟩ => apply Fin.ext; show 0 + 1 * y.val = y.val; omega

/-- Contents written over the whole of a view agree, on the view's elements, with any contents the view reads them off. -/
theorem write_agree {sig : RefSig} {κ : Kind} {sp : Space} {s : Shape} {e : EltTy} (v : View sig κ sp s e) {Val : EltTy → Type}
    (fd g : v.ty.Contents Val) (w : s.Idx → Val e) (h : ∀ x, v.read Val g x = w x) (i : v.ty.Idx) (hi : i ∈ v.set) :
    v.write Val fd w Finset.univ i = g i := by
  obtain ⟨x, -, rfl⟩ := Finset.mem_map.mp hi
  rw [View.write_emb_of_mem fd w (Finset.mem_univ _), ← h x, View.read_apply, cast_cast]
  rfl

/-- Through the kernel's block `p` the gathered first operand reads device `p`'s. -/
theorem read_gatherX (p : Dev nD) (xs : Dev nD → XBuf F) (x : S4096x1024.Idx) :
    (slotX ![p.val, 0, 0] (inbX p)).view.read (Elt F) (gatherX xs) x = xs p x := by
  rw [eq_ix2 x]
  exact congrArg (gatherX xs) (emb_block p squeezes_S1x4096x1024_S4096x1024.numel_eq (inbX p) (x 0) (x 1))
/-- Through the kernel's block `p` the gathered second operand reads device `p`'s. -/
theorem read_gatherW (p : Dev nD) (ws : Dev nD → WBuf F) (x : S1024x8192.Idx) :
    (slotW ![p.val, 0, 0] (inbW p)).view.read (Elt F) (gatherW ws) x = ws p x := by
  rw [eq_ix2 x]
  exact congrArg (gatherW ws) (emb_block p squeezes_S1x1024x8192_S1024x8192.numel_eq (inbW p) (x 0) (x 1))

/-- Device `p`'s first operand written over slot `p` agrees there with the gathered array. -/
theorem landedX (p : Dev nD) (xs : Dev nD → XBuf F) (fd : S4x4096x1024.Idx → Elt F .fp8e5m2) (i : S4x4096x1024.Idx) (hi : i ∈ setX p) :
    (slotX ![p.val, 0, 0] (inbX p)).view.write (Elt F) fd (xs p) Finset.univ i = gatherX xs i :=
  write_agree (slotX ![p.val, 0, 0] (inbX p)).view fd (gatherX xs) (xs p) (read_gatherX p xs) i (by rw [slotX_set]; exact hi)
/-- Device `p`'s second operand written over slot `p` agrees there with the gathered array. -/
theorem landedW (p : Dev nD) (ws : Dev nD → WBuf F) (fd : S4x1024x8192.Idx → Elt F .fp8e5m2) (i : S4x1024x8192.Idx) (hi : i ∈ setW p) :
    (slotW ![p.val, 0, 0] (inbW p)).view.write (Elt F) fd (ws p) Finset.univ i = gatherW ws i :=
  write_agree (slotW ![p.val, 0, 0] (inbW p)).view fd (gatherW ws) (ws p) (read_gatherW p ws) i (by rw [slotW_set]; exact hi)

/-! ## The offsets the kernel computes -/

/-- The block the wait of step `k` names is slot `c - k`. -/
theorem off3_eq (c : Dev nD) (r : Fin 3) : k0_off3 c (BitVec.ofNat 32 (1 + r.val)) = ![(bwd r.succ c).val, 0, 0] := by
  revert c r; decide +kernel
/-- The block the wait of step `k` names is slot `c - k`. -/
theorem off4_eq (c : Dev nD) (r : Fin 3) : k0_off4 c (BitVec.ofNat 32 (1 + r.val)) = ![(bwd r.succ c).val, 0, 0] := by
  revert c r; decide +kernel

end Cert.Proof
-- ==== Proof.Schedule.lean ====
module

public import proofs.«01_k».proof.Proof.Slots
public import Idealize.ShloMosaic.Lib.Pipeline.Kit
public import Idealize.ShloMosaic.Lib.Pipeline.RegionTalk

@[expose] public section

set_option maxRecDepth 16384

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the gather's -/

/-- The pipelines' own ghost state, and the gather protocol's, whose duties are numbered. -/
abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-! ## The semaphores and their cells -/

/-- The barrier semaphore. -/
abbrev barS : Sem sig := ⟨0, by decide⟩
/-- The semaphores of step `k`: of the copy of the first operand and of the second, at its sender and at its receiver. -/
abbrev sX (k : Fin 4) : DmaSem sig := ⟨2 + k.val, lt_of_lt_of_le (Nat.add_lt_add_left k.isLt 2) (by decide)⟩
abbrev rX (k : Fin 4) : DmaSem sig := ⟨6 + k.val, lt_of_lt_of_le (Nat.add_lt_add_left k.isLt 6) (by decide)⟩
abbrev sW (k : Fin 4) : DmaSem sig := ⟨10 + k.val, lt_of_lt_of_le (Nat.add_lt_add_left k.isLt 10) (by decide)⟩
abbrev rW (k : Fin 4) : DmaSem sig := ⟨14 + k.val, lt_of_lt_of_le (Nat.add_lt_add_left k.isLt 14) (by decide)⟩
/-- The semaphores of the two local copies. -/
abbrev lX : DmaSem sig := ⟨18, by decide⟩
abbrev lW : DmaSem sig := ⟨19, by decide⟩

/-- Device `c`'s barrier cell; its cell of a DMA semaphore. -/
abbrev barCell (c : Dev nD) : GSem nD τ sig := ((c : Thread nD τ), .reg barS)
abbrev dmaCell (c : Dev nD) (s : DmaSem sig) : GSem nD τ sig := ((c : Thread nD τ), .dma s)

/-- What a copy of a first operand credits; what a copy of a second operand credits. -/
def Nx : ℕ := (Memref.whole cc0_stg0_0).view.dmaCredit
def Nw : ℕ := (Memref.whole cc0_stg1_0).view.dmaCredit
theorem Nx_pos : 0 < Nx := View.dmaCredit_pos _ (by decide)
theorem Nw_pos : 0 < Nw := View.dmaCredit_pos _ (by decide)

/-- Whether a DMA semaphore is of a copy of a first operand. -/
def ofX (j : ℕ) : Bool := decide (j < 10) || decide (j = 18)
/-- Whether the kernel's DMA semaphore is ever used: those of step 0 are not. -/
def live (j : ℕ) : Bool := (decide (2 ≤ j) && decide (j < 18) && decide ((j - 2) % 4 ≠ 0)) || decide (j = 18) || decide (j = 19)

/-- What one payment to a cell amounts to. -/
def amt (g : GSem nD τ sig) : ℕ := match g.2 with | .reg _ => 1 | .dma j => if ofX j.val then Nx else Nw

theorem amt_pos (g : GSem nD τ sig) : 0 < amt g := by
  unfold amt
  split
  · exact Nat.one_pos
  · split
    · exact Nx_pos
    · exact Nw_pos

/-! ## What the payments hand over -/

-- Every device's two operands, as its staging buffers hold them.
variable (xs : Dev nD → XBuf F) (ws : Dev nD → WBuf F)

/-- The four shares a staged operand is read under: the local copy's and the three remote copies'. -/
abbrev quarter : Fin 4 → PosShare TreeShare
  | 0 => fullShare.left.left
  | 1 => fullShare.left.right
  | 2 => fullShare.right.left
  | 3 => fullShare.right.right

/-- Slot `p` of the gathered first operand on device `c`, at contents `f`. -/
def slotXAt (c p : Dev nD) (f : S4x4096x1024.Idx → Elt F .fp8e5m2) : sProp 𝕄 :=
  ((c : Thread nD τ).loc main_v1_0) ↦[setX p]{fullShare} f
/-- Slot `p` of the gathered second operand on device `c`, at contents `f`. -/
def slotWAt (c p : Dev nD) (f : S4x1024x8192.Idx → Elt F .fp8e5m2) : sProp 𝕄 :=
  ((c : Thread nD τ).loc main_v1_1) ↦[setW p]{fullShare} f
/-- Device `c`'s staged first operand, under a share. -/
def srcX (c : Dev nD) (q : PosShare TreeShare) : sProp 𝕄 := ((c : Thread nD τ).loc cc0_stg0_0) ↦{q} xs c
/-- Device `c`'s staged second operand, under a share. -/
def srcW (c : Dev nD) (q : PosShare TreeShare) : sProp 𝕄 := ((c : Thread nD τ).loc cc0_stg1_0) ↦{q} ws c

instance slotXAt_storable (c p : Dev nD) (f : S4x4096x1024.Idx → Elt F .fp8e5m2) : BI.Storable (upEmb : UEmb _ 𝕄) (slotXAt c p f) := by
  unfold slotXAt; infer_instance
instance slotWAt_storable (c p : Dev nD) (f : S4x1024x8192.Idx → Elt F .fp8e5m2) : BI.Storable (upEmb : UEmb _ 𝕄) (slotWAt c p f) := by
  unfold slotWAt; infer_instance
instance srcX_storable (c : Dev nD) (q : PosShare TreeShare) : BI.Storable (upEmb : UEmb _ 𝕄) (srcX xs c q) := by
  unfold srcX; infer_instance
instance srcW_storable (c : Dev nD) (q : PosShare TreeShare) : BI.Storable (upEmb : UEmb _ 𝕄) (srcW ws c q) := by
  unfold srcW; infer_instance

/-- Paid to device `c`'s barrier cell by the device `d` after it, `p`: slot `c` of both gathered arrays on `p`, and that the
    receive cells of step `d` are open on `p`. -/
def barPay (c : Dev nD) (d : Fin 4) : sProp 𝕄 :=
  iprop((∃ f, slotXAt (fwd d c) c f) ∗ (∃ f, slotWAt (fwd d c) c f)
    ∗ reached ER (dmaCell (fwd d c) (rX d)) 0 ∗ reached ER (dmaCell (fwd d c) (rW d)) 0)

instance barPay_storable (c : Dev nD) (d : Fin 4) : BI.Storable (upEmb : UEmb _ 𝕄) (barPay (F := F) c d) := by
  unfold barPay; infer_instance

/-- Paid to device `c`'s DMA cells: to a send cell the share of the source; to the receive cell of step `k` the slot of the
    device `k` before `c`, at what that device sent; to a local copy's cell `c`'s own slot and the share of the source. -/
def dmaPay (c : Dev nD) : ℕ → sProp 𝕄
  | 3 => srcX xs c (quarter 1)
  | 4 => srcX xs c (quarter 2)
  | 5 => srcX xs c (quarter 3)
  | 7 => slotXAt c (bwd 1 c) (gatherX xs)
  | 8 => slotXAt c (bwd 2 c) (gatherX xs)
  | 9 => slotXAt c (bwd 3 c) (gatherX xs)
  | 11 => srcW ws c (quarter 1)
  | 12 => srcW ws c (quarter 2)
  | 13 => srcW ws c (quarter 3)
  | 15 => slotWAt c (bwd 1 c) (gatherW ws)
  | 16 => slotWAt c (bwd 2 c) (gatherW ws)
  | 17 => slotWAt c (bwd 3 c) (gatherW ws)
  | 18 => iprop(slotXAt c c (gatherX xs) ∗ srcX xs c (quarter 0))
  | 19 => iprop(slotWAt c c (gatherW ws) ∗ srcW ws c (quarter 0))
  | _ => iprop(emp)

instance dmaPay_storable (c : Dev nD) (j : ℕ) : BI.Storable (upEmb : UEmb _ 𝕄) (dmaPay xs ws c j) := by
  unfold dmaPay
  split <;> infer_instance

/-! ## The schedule -/

/-- Which duties a cell has in its one round: three on a barrier cell, one on a DMA cell in use. -/
def dutyOf : SemLoc sig → Finset (Fin 4)
  | .reg _ => {1, 2, 3}
  | .dma j => if live j.val then {0} else ∅

/-- The gather's schedule: one round on every cell. -/
def gatherRd : Rounds.Schedule (GSem nD τ sig) (Fin 4) 𝕄 where
  duties g r := if r = 0 ∧ g.1.2 = .tc then dutyOf g.2 else ∅
  unitless _ := False
  amount g _ _ := amt g
  payload g _ d := match g.2 with | .reg _ => barPay g.1.1 d | .dma j => dmaPay xs ws g.1.1 j.val
  amount_pos g _ _ _ := amt_pos g

instance gatherRd_payload_storable (g : GSem nD τ sig) (r : ℕ) (d : Fin 4) :
    BI.Storable (upEmb : UEmb _ 𝕄) ((gatherRd xs ws).payload g r d) := by
  show BI.Storable upEmb (match g.2 with | .reg _ => barPay g.1.1 d | .dma j => dmaPay xs ws g.1.1 j.val)
  split <;> infer_instance

theorem duties_bar (c : Dev nD) : (gatherRd xs ws).duties (barCell c) 0 = {1, 2, 3} := by
  dsimp only [gatherRd]; rw [if_pos ⟨rfl, rfl⟩]; rfl
theorem duties_dma (c : Dev nD) (s : DmaSem sig) (h : live s.val = true) : (gatherRd xs ws).duties (dmaCell c s) 0 = {0} := by
  dsimp only [gatherRd]; rw [if_pos ⟨rfl, rfl⟩]; exact if_pos h
theorem duties_later (g : GSem nD τ sig) : ∀ r, 0 + 1 ≤ r → (gatherRd xs ws).duties g r = ∅ :=
  fun r hr => if_neg fun h => by omega

theorem payload_bar (c : Dev nD) (d : Fin 4) : (gatherRd xs ws).payload (barCell c) 0 d = barPay c d := rfl
theorem payload_dma (c : Dev nD) (s : DmaSem sig) (d : Fin 4) : (gatherRd xs ws).payload (dmaCell c s) 0 d = dmaPay xs ws c s.val := rfl

theorem expect_bar (c : Dev nD) : (gatherRd xs ws).expect (barCell c) 0 = 3 := by
  unfold Schedule.expect Schedule.amountOf
  rw [duties_bar]
  rfl
theorem expect_dma (c : Dev nD) (s : DmaSem sig) (h : live s.val = true) : (gatherRd xs ws).expect (dmaCell c s) 0 = amt (dmaCell c s) := by
  unfold Schedule.expect Schedule.amountOf
  rw [duties_dma xs ws c s h, Finset.sum_singleton]
  rfl

/-- All that is paid to a barrier cell. -/
theorem rest_bar (c : Dev nD) :
    bigSep ((gatherRd xs ws).duties (barCell c) 0 \ ∅) (fun d => (gatherRd xs ws).payload (barCell c) 0 d)
      = iprop(barPay c 1 ∗ barPay c 2 ∗ barPay c 3) := by
  rw [Finset.sdiff_empty, duties_bar, bigSep_insert (by decide), bigSep_insert (by decide), bigSep_singleton]
  rfl
/-- All that is paid to a DMA cell in use. -/
theorem rest_dma (c : Dev nD) (s : DmaSem sig) (h : live s.val = true) :
    bigSep ((gatherRd xs ws).duties (dmaCell c s) 0 \ ∅) (fun d => (gatherRd xs ws).payload (dmaCell c s) 0 d) = dmaPay xs ws c s.val := by
  rw [Finset.sdiff_empty, duties_dma xs ws c s h, bigSep_singleton]
  rfl

/-! ### The cells of step `k` -/

theorem live_sX (k : Fin 4) (hk : k ≠ 0) : live (sX k).val = true := by revert k; decide
theorem live_rX (k : Fin 4) (hk : k ≠ 0) : live (rX k).val = true := by revert k; decide
theorem live_sW (k : Fin 4) (hk : k ≠ 0) : live (sW k).val = true := by revert k; decide
theorem live_rW (k : Fin 4) (hk : k ≠ 0) : live (rW k).val = true := by revert k; decide
theorem ofX_sX (k : Fin 4) : ofX (sX k).val = true := by revert k; decide
theorem ofX_rX (k : Fin 4) : ofX (rX k).val = true := by revert k; decide
theorem ofX_sW (k : Fin 4) : ¬ ofX (sW k).val = true := by revert k; decide
theorem ofX_rW (k : Fin 4) : ¬ ofX (rW k).val = true := by revert k; decide
theorem amt_sX (c : Dev nD) (k : Fin 4) : amt (dmaCell c (sX k)) = Nx := if_pos (ofX_sX k)
theorem amt_rX (c : Dev nD) (k : Fin 4) : amt (dmaCell c (rX k)) = Nx := if_pos (ofX_rX k)
theorem amt_sW (c : Dev nD) (k : Fin 4) : amt (dmaCell c (sW k)) = Nw := if_neg (ofX_sW k)
theorem amt_rW (c : Dev nD) (k : Fin 4) : amt (dmaCell c (rW k)) = Nw := if_neg (ofX_rW k)
theorem amt_lX (c : Dev nD) : amt (dmaCell c lX) = Nx := rfl
theorem amt_lW (c : Dev nD) : amt (dmaCell c lW) = Nw := rfl

theorem pay_sX (c : Dev nD) : ∀ k : Fin 4, k ≠ 0 → dmaPay xs ws c (sX k).val = srcX xs c (quarter k)
  | 0, h => absurd rfl h | 1, _ => rfl | 2, _ => rfl | 3, _ => rfl
theorem pay_sW (c : Dev nD) : ∀ k : Fin 4, k ≠ 0 → dmaPay xs ws c (sW k).val = srcW ws c (quarter k)
  | 0, h => absurd rfl h | 1, _ => rfl | 2, _ => rfl | 3, _ => rfl
theorem pay_rX (c : Dev nD) : ∀ k : Fin 4, k ≠ 0 → dmaPay xs ws c (rX k).val = slotXAt c (bwd k c) (gatherX xs)
  | 0, h => absurd rfl h | 1, _ => rfl | 2, _ => rfl | 3, _ => rfl
theorem pay_rW (c : Dev nD) : ∀ k : Fin 4, k ≠ 0 → dmaPay xs ws c (rW k).val = slotWAt c (bwd k c) (gatherW ws)
  | 0, h => absurd rfl h | 1, _ => rfl | 2, _ => rfl | 3, _ => rfl
theorem pay_lX (c : Dev nD) : dmaPay xs ws c lX.val = iprop(slotXAt c c (gatherX xs) ∗ srcX xs c (quarter 0)) := rfl
theorem pay_lW (c : Dev nD) : dmaPay xs ws c lW.val = iprop(slotWAt c c (gatherW ws) ∗ srcW ws c (quarter 0)) := rfl

/-! ## What each device owes at launch, and the levels -/

/-- A list of cells as what is owed: one payment to each. -/
def owing : List (GSem nD τ sig) → CellTallies nD τ sig Unit
  | [] => 0
  | g :: l => owing l + tallyAt g () (amt g)

/-- The cells device `c` owes, in the order it pays them: the barrier cells of the other devices, then the receive cells. -/
def dues (c : Dev nD) : List (GSem nD τ sig) :=
  [barCell (fwd 1 c), barCell (fwd 2 c), barCell (fwd 3 c), dmaCell (fwd 1 c) (rX 1), dmaCell (fwd 1 c) (rW 1),
    dmaCell (fwd 2 c) (rX 2), dmaCell (fwd 2 c) (rW 2), dmaCell (fwd 3 c) (rX 3), dmaCell (fwd 3 c) (rW 3)]

theorem owing_pos {l : List (GSem nD τ sig)} {g : GSem nD τ sig} {u : Unit} (h : 0 < owing l g u) : g ∈ l := by
  induction l with
  | nil => exact absurd h (Nat.lt_irrefl 0)
  | cons a l ih =>
    unfold owing at h
    rw [Pi.add_apply, Finsupp.add_apply] at h
    rcases Nat.add_pos_iff_pos_or_pos.mp h with h | h
    · exact List.mem_cons_of_mem _ (ih h)
    · rw [tallyAt_apply] at h
      split at h
      · next hg => rw [hg.1]; exact List.mem_cons_self
      · exact absurd h (Nat.lt_irrefl 0)

theorem owing_count (l : List (GSem nD τ sig)) (g : GSem nD τ sig) : owing l g () = l.count g * amt g := by
  induction l with
  | nil => rw [List.count_nil, Nat.zero_mul]; rfl
  | cons a l ih =>
    unfold owing
    rw [Pi.add_apply, Finsupp.add_apply, ih, tallyAt_apply, List.count_cons, Nat.add_mul]
    congr 1
    by_cases h : a = g
    · subst h; rw [if_pos ⟨rfl, rfl⟩, if_pos (beq_self_eq_true _), Nat.one_mul]
    · rw [if_neg (fun e => h e.1.symm), if_neg (fun e => h (eq_of_beq e)), Nat.zero_mul]

def L (g : GSem nD τ sig) : Finset Unit := if g.1.2 = .tc then {()} else ∅
/-- Barrier cells at 1, receive cells at 2, the rest at 0. -/
def lvOf : SemLoc sig → ℕ
  | .reg _ => 1
  | .dma j => if (decide (6 ≤ j.val) && decide (j.val < 10)) || (decide (14 ≤ j.val) && decide (j.val < 18)) then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem dues_mem (c : Dev nD) : ∀ g ∈ dues c, g.1.2 = .tc ∧ 0 < lvOf g.2 := fun g hg => by
  simp only [dues, List.mem_cons, List.not_mem_nil, or_false] at hg
  rcases hg with rfl | rfl | rfl | rfl | rfl | rfl | rfl | rfl | rfl <;>
    first | exact ⟨rfl, Nat.one_pos⟩ | exact ⟨rfl, Nat.two_pos⟩
theorem dues_mem' (c : Dev nD) : ∀ g ∈ (dues c).drop 3, 1 < lvOf g.2 := fun g hg => by
  simp only [dues, List.drop_succ_cons, List.drop_zero, List.mem_cons, List.not_mem_nil, or_false] at hg
  rcases hg with rfl | rfl | rfl | rfl | rfl | rfl <;> exact Nat.lt_succ_self 1

/-- Whatever device `c` owes is owed at a positive level. -/
theorem dues_level (c : Dev nD) (g : GSem nD τ sig) (u : Unit) (h : 0 < owing (dues c) g u) : u ∈ L g ∧ 0 < lv g u := by
  have hm := dues_mem c g (owing_pos h)
  refine ⟨?_, hm.2⟩
  unfold L; rw [if_pos hm.1]; exact Finset.mem_singleton_self _

/-- Owing only copies, a device may wait on its barrier cell. -/
theorem mayWait_bar (c : Dev nD) :
    (levAts L lv : sProp 𝕄) ⊢ MayWait (c : Thread nD τ) (.reg barS) () (owing ((dues c).drop 3)) :=
  MayOwe.of_cut (L := L) (lev := lv) 1 (fun p hp => by rw [Finset.mem_singleton.mp hp, L_tc]; exact Finset.mem_singleton_self _)
    (fun g u hg => by
      have hm := dues_mem c g (List.mem_of_mem_drop (owing_pos hg))
      unfold L; rw [if_pos hm.1]; exact Finset.mem_singleton_self _)
    (fun p hp => by rw [Finset.mem_singleton.mp hp]; exact le_refl 1)
    (fun g u hg => dues_mem' c g (owing_pos hg))

end Cert.Proof
-- ==== Proof.Ops.lean ====
module

public import proofs.«01_k».proof.Proof.Schedule

@[expose] public section

set_option maxRecDepth 16384

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (ws : Dev nD → WBuf F)

abbrev 𝒱₀ : Variants := Variants.none

/-! ## The cells and the records every device may consult -/

/-- The kernel's DMA semaphores in use. -/
def liveSem : Fin 14 → DmaSem sig :=
  ![sX 1, sX 2, sX 3, rX 1, rX 2, rX 3, sW 1, sW 2, sW 3, rW 1, rW 2, rW 3, lX, lW]
theorem liveSem_inj : Function.Injective liveSem := by decide
theorem liveSem_live : ∀ i, live (liveSem i).val = true := by decide
theorem liveSem_of : ∀ s : DmaSem sig, live s.val = true → ∃ i, liveSem i = s := by decide

def barEmb : Dev nD ↪ GSem nD τ sig := ⟨fun c => barCell c, fun _ _ h => congrArg (fun g : GSem nD τ sig => g.1.1) h⟩
def dmaEmb : Dev nD × Fin 14 ↪ GSem nD τ sig :=
  ⟨fun ck => dmaCell ck.1 (liveSem ck.2), fun _ _ h =>
    Prod.ext (congrArg (fun g : GSem nD τ sig => g.1.1) h) (liveSem_inj (SemLoc.dma.inj (congrArg Prod.snd h)))⟩

/-- The barrier cells; the DMA cells in use. -/
abbrev barCells : Finset (GSem nD τ sig) := Finset.univ.map barEmb
abbrev dmaCells : Finset (GSem nD τ sig) := Finset.univ.map dmaEmb

theorem bar_mem (c : Dev nD) : barCell c ∈ (barCells ∪ dmaCells : Finset (GSem nD τ sig)) :=
  Finset.mem_union_left _ (Finset.mem_map_of_mem barEmb (Finset.mem_univ c))
theorem dma_mem (c : Dev nD) (s : DmaSem sig) (h : live s.val = true) : dmaCell c s ∈ (barCells ∪ dmaCells : Finset (GSem nD τ sig)) := by
  obtain ⟨i, rfl⟩ := liveSem_of s h
  exact Finset.mem_union_right _ (Finset.mem_map_of_mem dmaEmb (Finset.mem_univ (c, i)))

/-- Every cell's invariant, under one map of names; round 0 of every barrier cell reached. -/
def records (κ : GSem nD τ sig → ℕ) : sProp 𝕄 :=
  iprop((bigSep (barCells ∪ dmaCells) fun g => cellInv ER (gatherRd xs ws) (κ g) g) ∗ bigSep barCells fun g => reached ER g 0)

instance records_persistent (κ : GSem nD τ sig → ℕ) : BI.Persistent (records xs ws κ) := by unfold records; infer_instance

theorem inv_at (κ : GSem nD τ sig → ℕ) {g : GSem nD τ sig} (hg : g ∈ (barCells ∪ dmaCells : Finset (GSem nD τ sig))) :
    records xs ws κ ⊢ cellInv ER (gatherRd xs ws) (κ g) g := by
  unfold records
  exact (sep_elim_left).trans (bigSep_elim hg)
theorem reached_at (κ : GSem nD τ sig → ℕ) (c : Dev nD) : records xs ws κ ⊢ reached ER (barCell c) 0 := by
  unfold records
  exact (sep_elim_right).trans (bigSep_elim (Finset.mem_map_of_mem barEmb (Finset.mem_univ c)))

/-! ## Points-tos as the kernel's views name them -/

theorem srcX_view (c : Dev nD) (q : PosShare TreeShare) : srcX xs c q
    = ((Memref.whole cc0_stg0_0).view.loc (c : Thread nD τ) ↦[(Memref.whole cc0_stg0_0).view.set]{q} xs c : sProp 𝕄) := by
  rw [show (Memref.whole cc0_stg0_0).view.set = Finset.univ from View.set_whole _]; rfl
theorem srcW_view (c : Dev nD) (q : PosShare TreeShare) : srcW ws c q
    = ((Memref.whole cc0_stg1_0).view.loc (c : Thread nD τ) ↦[(Memref.whole cc0_stg1_0).view.set]{q} ws c : sProp 𝕄) := by
  rw [show (Memref.whole cc0_stg1_0).view.set = Finset.univ from View.set_whole _]; rfl
theorem slotX_view (c p : Dev nD) (f : S4x4096x1024.Idx → Elt F .fp8e5m2) : slotXAt c p f
    = ((slotX ![p.val, 0, 0] (inbX p)).view.loc (c : Thread nD τ) ↦[(slotX ![p.val, 0, 0] (inbX p)).view.set]{fullShare} f : sProp 𝕄) := by
  rw [slotX_set]; rfl
theorem slotW_view (c p : Dev nD) (f : S4x1024x8192.Idx → Elt F .fp8e5m2) : slotWAt c p f
    = ((slotW ![p.val, 0, 0] (inbW p)).view.loc (c : Thread nD τ) ↦[(slotW ![p.val, 0, 0] (inbW p)).view.set]{fullShare} f : sProp 𝕄) := by
  rw [slotW_set]; rfl

/-- Device `p`'s first operand copied over slot `p` leaves the slot at the gathered array. -/
theorem slotX_landed (c p : Dev nD) (f : S4x4096x1024.Idx → Elt F .fp8e5m2) :
    ((slotX ![p.val, 0, 0] (inbX p)).view.loc (c : Thread nD τ) ↦[(slotX ![p.val, 0, 0] (inbX p)).view.set]{fullShare}
        ((slotX ![p.val, 0, 0] (inbX p)).view.write (Elt F) f ((Memref.whole cc0_stg0_0).view.read (Elt F) (xs p)) Finset.univ) : sProp 𝕄)
      = slotXAt c p (gatherX xs) := by
  rw [slotX_view]
  refine pointsTo_congr fun i hi => ?_
  rw [slotX_set] at hi
  exact landedX p xs f i hi
/-- Device `p`'s second operand copied over slot `p` leaves the slot at the gathered array. -/
theorem slotW_landed (c p : Dev nD) (f : S4x1024x8192.Idx → Elt F .fp8e5m2) :
    ((slotW ![p.val, 0, 0] (inbW p)).view.loc (c : Thread nD τ) ↦[(slotW ![p.val, 0, 0] (inbW p)).view.set]{fullShare}
        ((slotW ![p.val, 0, 0] (inbW p)).view.write (Elt F) f ((Memref.whole cc0_stg1_0).view.read (Elt F) (ws p)) Finset.univ) : sProp 𝕄)
      = slotWAt c p (gatherW ws) := by
  rw [slotW_view]
  refine pointsTo_congr fun i hi => ?_
  rw [slotW_set] at hi
  exact landedW p ws f i hi

/-! ## The kernel's operations -/

variable {α : Type}

/-- A signal to the barrier cell of the device `k` after `c` pays its duty `d`, the one from which going on by `d` leads back
    to `c`: it hands over slot of that device in both gathered arrays on `c`. -/
theorem op_signal (κ : GSem nD τ sig → ℕ) (c : Dev nD) (k d : Fin 4) (hd : d ∈ ({1, 2, 3} : Finset (Fin 4))) (hkd : fwd d (fwd k c) = c)
    (n : Dev nD) (hn : n = fwd k c) (l : List (GSem nD τ sig)) (W : Waits sig Unit)
    (K : PUnit → Prog (TpuEff nD τ sig (Elt F) Λ₀ .tc) α) (Q : α → sProp 𝕄) :
    iprop(records xs ws κ ∗ owes (c : Thread nD τ) (owing (barCell (fwd k c) :: l)) W ∗ dutyTok ER (barCell (fwd k c)) 0 d
        ∗ (∃ f, slotXAt c (fwd k c) f) ∗ (∃ f, slotWAt c (fwd k c) f)
        ∗ reached ER (dmaCell c (rX d)) 0 ∗ reached ER (dmaCell c (rW d)) 0)
      ⊢ (iprop((owes (c : Thread nD τ) (owing l) W -∗ wp frame (wpE (defs₀ (F := F)) 𝒱₀ (c : Thread nD τ) none) Set.univ (K ⟨⟩) Q)
          -∗ wp frame (wpE (defs₀ (F := F)) 𝒱₀ (c : Thread nD τ) none) Set.univ (.op (.semSignal (Dev.tc n) barS 1) K) Q) : sProp 𝕄) := by
  subst hn
  iintro ⟨#HR, HO, Ht, HX, HW, #HrX, #HrW⟩
  iapply (Rounds.wp_signal 𝒱₀ ER (gatherRd xs ws) (c : Thread nD τ) none (dst := (fwd k c : Thread nD τ)) (sem := barS) (r := 0) (d := d)
      (κ := κ (barCell (fwd k c))) (by rw [duties_bar]; exact hd) rfl () (owing l) rfl)
  isplitr; · iapply (inv_at xs ws κ (bar_mem (fwd k c))); iexact HR
  isplitl [HO]; · iexact HO
  isplitl [Ht]; · iexact Ht
  isplitl [HX HW]
  · rw [payload_bar]; unfold barPay; rw [hkd]
    isplitl [HX]; · iexact HX
    isplitl [HW]; · iexact HW
    isplitr; · iexact HrX
    iexact HrW
  · iapply (reached_at xs ws κ (fwd k c)); iexact HR

/-- The wait on the own barrier cell, all three signals given and only copies still owed: slot `c` of both gathered arrays on
    each of the other devices, and that their receive cells are open. -/
theorem op_wait_bar (κ : GSem nD τ sig → ℕ) (c : Dev nD) (W : Waits sig Unit)
    (K : PUnit → Prog (TpuEff nD τ sig (Elt F) Λ₀ .tc) α) (Q : α → sProp 𝕄) :
    iprop(records xs ws κ ∗ levAts L lv ∗ cred (tallyAt (barCell c) () 3) ∗ owes (c : Thread nD τ) (owing ((dues c).drop 3)) W ∗ atPos ER (barCell c) 0 ∅ 0)
      ⊢ (iprop((iprop((∃ W', owes (c : Thread nD τ) (owing ((dues c).drop 3)) W') ∗ atPos ER (barCell c) (0 + 1) ∅ 0 ∗ barPay c 1 ∗ barPay c 2 ∗ barPay c 3)
            -∗ wp frame (wpE (defs₀ (F := F)) 𝒱₀ (c : Thread nD τ) none) Set.univ (K ⟨⟩) Q)
          -∗ wp frame (wpE (defs₀ (F := F)) 𝒱₀ (c : Thread nD τ) none) Set.univ (.op (.semWait barS 3) K) Q) : sProp 𝕄) := by
  iintro ⟨#HR, #Hlev, Hc, HO, Hat⟩ Hk
  iapply (Rounds.wp_wait_rest_token 𝒱₀ ER (gatherRd xs ws) (c : Thread nD τ) none (κ := κ (barCell c))
      (wpE_semWait_eq 𝒱₀ (c : Thread nD τ) none Set.univ) (Set.mem_univ _) () (O := owing ((dues c).drop 3)) (W := W) (R := 0) (m := 0) (T := ∅)
      ((Nat.zero_add 3).trans (expect_bar xs ws c).symm)) $$ [Hc HO Hat]
  · isplitr; · iapply (inv_at xs ws κ (bar_mem c)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  iapply (Entails.of_eq (rest_bar xs ws c)) $$ Hpay

/-- A wait on a DMA cell in use, nothing owed, closes the cell: what was paid to it, and its counter at zero. -/
theorem op_wait_dma (κ : GSem nD τ sig → ℕ) (c : Dev nD) (s s' : DmaSem sig) (hs : s' = s) (hl : live s.val = true)
    {sp sp' : Space} {sh sh' : Shape} {e e' : EltTy} (src : Memref sig .tc sp sh e) (dst : Memref sig .tc sp' sh' e') (hsrc : src.view.WordExact) (hdst : dst.view.WordExact)
    (N : ℕ) (hN : dst.view.dmaCredit = N) (hamt : amt (dmaCell c s) = N)
    (K : PUnit → Prog (TpuEff nD τ sig (Elt F) Λ₀ .tc) α) (Q : α → sProp 𝕄) :
    iprop(records xs ws κ ∗ cred (tallyAt (dmaCell c s) () N) ∗ (∃ W, owes (c : Thread nD τ) 0 W) ∗ atPos ER (dmaCell c s) 0 ∅ 0)
      ⊢ (iprop((iprop((∃ W, owes (c : Thread nD τ) 0 W) ∗ semVal (dmaCell c s) 0 ∗ dmaPay xs ws c s.val)
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 s' src dst hsrc hdst) K) Q) : sProp 𝕄) := by
  subst hs; subst hN
  iintro ⟨#HR, Hc, ⟨%W, HO⟩, Hat⟩ Hk
  iapply (Rounds.wp_wait_rest_token 𝒱₀ ER (gatherRd xs ws) (c : Thread nD τ) none (κ := κ (dmaCell c s'))
      (wpE_waitDma2_eq 𝒱₀ (c : Thread nD τ) none Set.univ) (Set.mem_univ _) () (O := 0) (W := W) (R := 0) (m := 0) (T := ∅)
      ((Nat.zero_add _).trans (hamt.symm.trans (expect_dma xs ws c s' hl).symm))) $$ [Hc HO Hat]
  · isplitr; · iapply (inv_at xs ws κ (dma_mem c s' hl)); iexact HR
    isplitl [Hc]; · iexact Hc
    isplitl [HO]; · iexact HO
    isplitr; · rw [MayWait_zero]; iempintro
    iexact Hat
  iintro ⟨HO, Hat, -, Hpay⟩
  iapply (Entails.of_eq (fupd_wp_eq ..))
  imod (Rounds.cell_close ER (gatherRd xs ws) (Set.mem_univ (κ (dmaCell c s'))) id (duties_later xs ws (dmaCell c s'))) $$ [Hat] with Hv
  · isplitr; · iapply (inv_at xs ws κ (dma_mem c s' hl)); iexact HR
    iexact Hat
  imodintro
  iapply Hk
  isplitl [HO]; · iexists _; iexact HO
  isplitl [Hv]; · iexact Hv
  iapply (Entails.of_eq (rest_dma xs ws c s' hl)) $$ Hpay

/-- The local copy of the first operand over the own slot. -/
theorem op_copyX (κ : GSem nD τ sig → ℕ) (c : Dev nD) (s' : DmaSem sig) (hs : s' = lX) (off : Fin 3 → Nat) (hin) (hoff : off = ![c.val, 0, 0])
    (hsrc : (Memref.whole cc0_stg0_0).view.WordExact) (hdst : (slotX off hin).view.WordExact)
    (hty : DmaTarget.Typed (nD := nD) (p := .tc) .vmem (.dma s') (.here (slotX off hin)))
    (K : PUnit → Prog (TpuEff nD τ sig (Elt F) Λ₀ .tc) α) (Q : α → sProp 𝕄) :
    iprop(records xs ws κ ∗ srcX xs c (quarter 0) ∗ (∃ f, slotXAt c c f) ∗ dutyTok ER (dmaCell c lX) 0 0 ∗ reached ER (dmaCell c lX) 0)
      ⊢ (iprop((cred (tallyAt (dmaCell c lX) () Nx) -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (Memref.whole cc0_stg0_0) (.here (slotX off hin)) (.dma s') hsrc hdst hty) K) Q) : sProp 𝕄) := by
  subst hs; subst hoff
  iintro ⟨#HR, Hs, ⟨%f, Hd⟩, Ht, #Hr⟩
  iapply (Rounds.wp_copy_pointsTo 𝒱₀ ER (gatherRd xs ws) (c : Thread nD τ) none (src := Memref.whole cc0_stg0_0) (dst := slotX ![c.val, 0, 0] hin) (sem := .dma lX)
      (q := quarter 0) (fs := xs c) (fd := f) (r := 0) (d := 0) (κ := κ (dmaCell c lX))
      (by rw [duties_dma xs ws c lX rfl]; exact Finset.mem_singleton_self _) () Nx rfl rfl
      (by
        rw [payload_dma, slotX_landed, ← srcX_view]
        exact BI.Entails.refl _))
  isplitr; · iapply (inv_at xs ws κ (dma_mem c lX rfl)); iexact HR
  isplitl [Hs]; · rw [← srcX_view]; iexact Hs
  isplitl [Hd]; · iapply (Entails.of_eq (slotX_view c c f)) $$ Hd
  isplitl [Ht]; · iexact Ht
  iexact Hr

/-- The local copy of the second operand over the own slot. -/
theorem op_copyW (κ : GSem nD τ sig → ℕ) (c : Dev nD) (s' : DmaSem sig) (hs : s' = lW) (off : Fin 3 → Nat) (hin) (hoff : off = ![c.val, 0, 0])
    (hsrc : (Memref.whole cc0_stg1_0).view.WordExact) (hdst : (slotW off hin).view.WordExact)
    (hty : DmaTarget.Typed (nD := nD) (p := .tc) .vmem (.dma s') (.here (slotW off hin)))
    (K : PUnit → Prog (TpuEff nD τ sig (Elt F) Λ₀ .tc) α) (Q : α → sProp 𝕄) :
    iprop(records xs ws κ ∗ srcW ws c (quarter 0) ∗ (∃ f, slotWAt c c f) ∗ dutyTok ER (dmaCell c lW) 0 0 ∗ reached ER (dmaCell c lW) 0)
      ⊢ (iprop((cred (tallyAt (dmaCell c lW) () Nw) -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (Memref.whole cc0_stg1_0) (.here (slotW off hin)) (.dma s') hsrc hdst hty) K) Q) : sProp 𝕄) := by
  subst hs; subst hoff
  iintro ⟨#HR, Hs, ⟨%f, Hd⟩, Ht, #Hr⟩
  iapply (Rounds.wp_copy_pointsTo 𝒱₀ ER (gatherRd xs ws) (c : Thread nD τ) none (src := Memref.whole cc0_stg1_0) (dst := slotW ![c.val, 0, 0] hin) (sem := .dma lW)
      (q := quarter 0) (fs := ws c) (fd := f) (r := 0) (d := 0) (κ := κ (dmaCell c lW))
      (by rw [duties_dma xs ws c lW rfl]; exact Finset.mem_singleton_self _) () Nw rfl rfl
      (by
        rw [payload_dma, slotW_landed, ← srcW_view]
        exact BI.Entails.refl _))
  isplitr; · iapply (inv_at xs ws κ (dma_mem c lW rfl)); iexact HR
  isplitl [Hs]; · rw [← srcW_view]; iexact Hs
  isplitl [Hd]; · iapply (Entails.of_eq (slotW_view c c f)) $$ Hd
  isplitl [Ht]; · iexact Ht
  iexact Hr

/-- Step `k`'s copy of the first operand, over slot `c` on the device `k` after `c`. -/
theorem op_sendX (κ : GSem nD τ sig → ℕ) (c : Dev nD) (k : Fin 4) (hk : k ≠ 0) (n : Dev nD) (hn : n = fwd k c)
    (s' r' : DmaSem sig) (hs : s' = sX k) (hr : r' = rX k) (off : Fin 3 → Nat) (hin) (hoff : off = ![c.val, 0, 0])
    (hsrc : (Memref.whole cc0_stg0_0).view.WordExact) (hdst : (slotX off hin).view.WordExact) (hsc)
    (hty : DmaTarget.Typed (nD := nD) (τ := τ) (sig := sig) .vmem (.dma r') (.remote (Dev.tc n) (slotX off hin) (.dma s') hsc))
    (l : List (GSem nD τ sig)) (W : Waits sig Unit) (K : PUnit → Prog (TpuEff nD τ sig (Elt F) Λ₀ .tc) α) (Q : α → sProp 𝕄) :
    iprop(records xs ws κ ∗ srcX xs c (quarter k) ∗ (∃ f, slotXAt (fwd k c) c f) ∗ owes (c : Thread nD τ) (owing (dmaCell (fwd k c) (rX k) :: l)) W
        ∗ dutyTok ER (dmaCell c (sX k)) 0 0 ∗ reached ER (dmaCell c (sX k)) 0 ∗ dutyTok ER (dmaCell (fwd k c) (rX k)) 0 0 ∗ reached ER (dmaCell (fwd k c) (rX k)) 0)
      ⊢ (iprop((iprop(cred (tallyAt (dmaCell c (sX k)) () Nx) ∗ owes (c : Thread nD τ) (owing l) W)
            -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (Memref.whole cc0_stg0_0) (.remote (Dev.tc n) (slotX off hin) (.dma s') hsc) (.dma r') hsrc hdst hty) K) Q) : sProp 𝕄) := by
  subst hs; subst hr; subst hoff; subst hn
  have hls := live_sX k hk
  have hlr := live_rX k hk
  iintro ⟨#HR, Hs, ⟨%f, Hd⟩, HO, Hts, #Hrs, Htr, #Hrr⟩
  iapply (Rounds.wp_send_pointsTo 𝒱₀ ER (gatherRd xs ws) (c : Thread nD τ) none (c' := (fwd k c : Thread nD τ)) (src := Memref.whole cc0_stg0_0) (dst := slotX ![c.val, 0, 0] hin)
      (sS := .dma (sX k)) (sem := .dma (rX k)) (q := quarter k) (fs := xs c) (κ₁ := κ (dmaCell c (sX k))) (κ₂ := κ (dmaCell (fwd k c) (rX k)))
      (r₁ := 0) (r₂ := 0) (d₁ := 0) (d₂ := 0) (fd := f)
      (by rw [duties_dma xs ws c (sX k) hls]; exact Finset.mem_singleton_self _) (by rw [duties_dma xs ws (fwd k c) (rX k) hlr]; exact Finset.mem_singleton_self _)
      () () Nx rfl (amt_sX c k) (amt_rX (fwd k c) k) (owing l) (by rw [← amt_rX (fwd k c) k]) (W := W)
      (by rw [payload_dma, pay_sX xs ws c k hk, ← srcX_view])
      (by rw [payload_dma, pay_rX xs ws (fwd k c) k hk, bwd_fwd, slotX_landed]))
  isplitr; · iapply (inv_at xs ws κ (dma_mem c (sX k) hls)); iexact HR
  isplitr; · iapply (inv_at xs ws κ (dma_mem (fwd k c) (rX k) hlr)); iexact HR
  isplitl [Hs]; · rw [← srcX_view]; iexact Hs
  isplitl [Hd]; · iapply (Entails.of_eq (slotX_view (fwd k c) c f)) $$ Hd
  isplitl [HO]; · iexact HO
  isplitl [Hts]; · iexact Hts
  isplitr; · iexact Hrs
  isplitl [Htr]; · iexact Htr
  iexact Hrr

/-- Step `k`'s copy of the second operand, over slot `c` on the device `k` after `c`. -/
theorem op_sendW (κ : GSem nD τ sig → ℕ) (c : Dev nD) (k : Fin 4) (hk : k ≠ 0) (n : Dev nD) (hn : n = fwd k c)
    (s' r' : DmaSem sig) (hs : s' = sW k) (hr : r' = rW k) (off : Fin 3 → Nat) (hin) (hoff : off = ![c.val, 0, 0])
    (hsrc : (Memref.whole cc0_stg1_0).view.WordExact) (hdst : (slotW off hin).view.WordExact) (hsc)
    (hty : DmaTarget.Typed (nD := nD) (τ := τ) (sig := sig) .vmem (.dma r') (.remote (Dev.tc n) (slotW off hin) (.dma s') hsc))
    (l : List (GSem nD τ sig)) (W : Waits sig Unit) (K : PUnit → Prog (TpuEff nD τ sig (Elt F) Λ₀ .tc) α) (Q : α → sProp 𝕄) :
    iprop(records xs ws κ ∗ srcW ws c (quarter k) ∗ (∃ f, slotWAt (fwd k c) c f) ∗ owes (c : Thread nD τ) (owing (dmaCell (fwd k c) (rW k) :: l)) W
        ∗ dutyTok ER (dmaCell c (sW k)) 0 0 ∗ reached ER (dmaCell c (sW k)) 0 ∗ dutyTok ER (dmaCell (fwd k c) (rW k)) 0 0 ∗ reached ER (dmaCell (fwd k c) (rW k)) 0)
      ⊢ (iprop((iprop(cred (tallyAt (dmaCell c (sW k)) () Nw) ∗ owes (c : Thread nD τ) (owing l) W)
            -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (Memref.whole cc0_stg1_0) (.remote (Dev.tc n) (slotW off hin) (.dma s') hsc) (.dma r') hsrc hdst hty) K) Q) : sProp 𝕄) := by
  subst hs; subst hr; subst hoff; subst hn
  have hls := live_sW k hk
  have hlr := live_rW k hk
  iintro ⟨#HR, Hs, ⟨%f, Hd⟩, HO, Hts, #Hrs, Htr, #Hrr⟩
  iapply (Rounds.wp_send_pointsTo 𝒱₀ ER (gatherRd xs ws) (c : Thread nD τ) none (c' := (fwd k c : Thread nD τ)) (src := Memref.whole cc0_stg1_0) (dst := slotW ![c.val, 0, 0] hin)
      (sS := .dma (sW k)) (sem := .dma (rW k)) (q := quarter k) (fs := ws c) (κ₁ := κ (dmaCell c (sW k))) (κ₂ := κ (dmaCell (fwd k c) (rW k)))
      (r₁ := 0) (r₂ := 0) (d₁ := 0) (d₂ := 0) (fd := f)
      (by rw [duties_dma xs ws c (sW k) hls]; exact Finset.mem_singleton_self _) (by rw [duties_dma xs ws (fwd k c) (rW k) hlr]; exact Finset.mem_singleton_self _)
      () () Nw rfl (amt_sW c k) (amt_rW (fwd k c) k) (owing l) (by rw [← amt_rW (fwd k c) k]) (W := W)
      (by rw [payload_dma, pay_sW xs ws c k hk, ← srcW_view])
      (by rw [payload_dma, pay_rW xs ws (fwd k c) k hk, bwd_fwd, slotW_landed]))
  isplitr; · iapply (inv_at xs ws κ (dma_mem c (sW k) hls)); iexact HR
  isplitr; · iapply (inv_at xs ws κ (dma_mem (fwd k c) (rW k) hlr)); iexact HR
  isplitl [Hs]; · rw [← srcW_view]; iexact Hs
  isplitl [Hd]; · iapply (Entails.of_eq (slotW_view (fwd k c) c f)) $$ Hd
  isplitl [HO]; · iexact HO
  isplitl [Hts]; · iexact Hts
  isplitr; · iexact Hrs
  isplitl [Htr]; · iexact Htr
  iexact Hrr

end Cert.Proof
-- ==== Proof.Body.lean ====
module

public import proofs.«01_k».proof.Proof.Ops

@[expose] public section

set_option maxRecDepth 65536

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (ws : Dev nD → WBuf F)

/-- The gather's body, on the staged operands and the gathered arrays. -/
abbrev gatherProg : Prog (TpuEff nD τ sig (Elt F) Λ₀ .tc) PUnit :=
  cc0__gather_body (Memref.whole cc0_stg0_0) (Memref.isWhole_whole _) (Memref.whole cc0_stg1_0) (Memref.isWhole_whole _)
    (Memref.whole main_v1_0) (Memref.isWhole_whole _) (Memref.whole main_v1_1) (Memref.isWhole_whole _)
    cc0_scratch0 cc0_scratch1 cc0_scratch2 cc0_scratch3 cc0_scratch4

/-! ## What a device holds at the gather's entry, and what it ends with -/

/-- The cells device `c` pays, one payment each: the barrier cells of the others, the receive cells of the others, its own. -/
def tokCell (c : Dev nD) : Fin 17 → GSem nD τ sig :=
  ![barCell (fwd 1 c), barCell (fwd 2 c), barCell (fwd 3 c), dmaCell (fwd 1 c) (rX 1), dmaCell (fwd 1 c) (rW 1),
    dmaCell (fwd 2 c) (rX 2), dmaCell (fwd 2 c) (rW 2), dmaCell (fwd 3 c) (rX 3), dmaCell (fwd 3 c) (rW 3),
    dmaCell c (sX 1), dmaCell c (sW 1), dmaCell c (sX 2), dmaCell c (sW 2), dmaCell c (sX 3), dmaCell c (sW 3), dmaCell c lX, dmaCell c lW]
/-- The duty of each payment. -/
def tokDuty : Fin 17 → Fin 4 := ![3, 2, 1, 0, 0, 0, 0, 0, 0, 0, 0, 0, 0, 0, 0, 0, 0]
/-- The cells of `c` the other devices pay. -/
def credCell (c : Dev nD) : Fin 7 → GSem nD τ sig :=
  ![barCell c, dmaCell c (rX 1), dmaCell c (rW 1), dmaCell c (rX 2), dmaCell c (rW 2), dmaCell c (rX 3), dmaCell c (rW 3)]
/-- How much. -/
def credAmt : Fin 7 → ℕ := ![3, Nx, Nw, Nx, Nw, Nx, Nw]

/-- The round of every DMA cell of `c` in use is open. -/
def reachedAll (c : Dev nD) : sProp 𝕄 := bigSep Finset.univ fun i : Fin 14 => reached ER (dmaCell c (liveSem i)) 0

instance reachedAll_persistent (c : Dev nD) : BI.Persistent (reachedAll (F := F) c) := by unfold reachedAll; infer_instance

theorem reached_own (c : Dev nD) (s : DmaSem sig) (h : live s.val = true) : (reachedAll c : sProp 𝕄) ⊢ reached ER (dmaCell c s) 0 := by
  obtain ⟨i, rfl⟩ := liveSem_of s h
  exact bigSep_elim (Finset.mem_univ i)

/-- What device `c` takes into the gather beside its arrays. -/
def gatherIn (κ : GSem nD τ sig → ℕ) (c : Dev nD) : sProp 𝕄 :=
  iprop(records xs ws κ ∗ levAts L lv ∗ reachedAll c ∗ atPos ER (barCell c) 0 ∅ 0
    ∗ (bigSep Finset.univ fun i : Fin 14 => atPos ER (dmaCell c (liveSem i)) 0 ∅ 0)
    ∗ (bigSep Finset.univ fun i : Fin 17 => dutyTok ER (tokCell c i) 0 (tokDuty i))
    ∗ bigSep Finset.univ fun i : Fin 7 => cred (tallyAt (credCell c i) () (credAmt i)))

/-- What it ends with: the closed cells' counters at zero. -/
def gatherOut (c : Dev nD) : sProp 𝕄 :=
  iprop(semVal (barCell c) 0 ∗ bigSep Finset.univ fun i : Fin 14 => semVal (dmaCell c (liveSem i)) 0)

theorem bigSep_of4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_of7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_of14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
theorem bigSep_of17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-! ## Arrays into slots and sources into shares -/

theorem around1 : ∀ c : Dev nD, fwd 3 (fwd 1 c) = c := by decide
theorem around2 : ∀ c : Dev nD, fwd 2 (fwd 2 c) = c := by decide
theorem around3 : ∀ c : Dev nD, fwd 1 (fwd 3 c) = c := by decide

theorem walked (c : Dev nD) (Φ : Dev nD → sProp 𝕄) : bigSep Finset.univ Φ = iprop(Φ c ∗ Φ (fwd 1 c) ∗ Φ (fwd 2 c) ∗ Φ (fwd 3 c)) :=
  bigSep_univ_eq_bigSepL [c, fwd 1 c, fwd 2 c, fwd 3 c] (by revert c; decide) (by revert c; decide) Φ
theorem walked_back (c : Dev nD) (Φ : Dev nD → sProp 𝕄) : bigSep Finset.univ Φ = iprop(Φ c ∗ Φ (bwd 1 c) ∗ Φ (bwd 2 c) ∗ Φ (bwd 3 c)) :=
  bigSep_univ_eq_bigSepL [c, bwd 1 c, bwd 2 c, bwd 3 c] (by revert c; decide) (by revert c; decide) Φ

/-- The gathered first operand is its slots. -/
theorem slotsX (c : Dev nD) (f : S4x4096x1024.Idx → Elt F .fp8e5m2) :
    (((c : Thread nD τ).loc main_v1_0) ↦{fullShare} f : sProp 𝕄) = bigSep Finset.univ fun p : Dev nD => slotXAt c p f := by
  have h := pointsTo_biUnion (Ix := Unit) (Name := ℕ) (U := UU) (Lvl := ℕ) (ℓ := (c : Thread nD τ).loc main_v1_0) (q := fullShare) (f := f) Finset.univ setX (fun i _ j _ h => setX_disjoint h)
  rw [setX_cover] at h
  exact h
/-- The gathered second operand is its slots. -/
theorem slotsW (c : Dev nD) (f : S4x1024x8192.Idx → Elt F .fp8e5m2) :
    (((c : Thread nD τ).loc main_v1_1) ↦{fullShare} f : sProp 𝕄) = bigSep Finset.univ fun p : Dev nD => slotWAt c p f := by
  have h := pointsTo_biUnion (Ix := Unit) (Name := ℕ) (U := UU) (Lvl := ℕ) (ℓ := (c : Thread nD τ).loc main_v1_1) (q := fullShare) (f := f) Finset.univ setW (fun i _ j _ h => setW_disjoint h)
  rw [setW_cover] at h
  exact h

theorem srcX_quarters (c : Dev nD) : srcX xs c fullShare ⊣⊢ iprop((srcX xs c (quarter 0) ∗ srcX xs c (quarter 1)) ∗ srcX xs c (quarter 2) ∗ srcX xs c (quarter 3)) := by
  unfold srcX
  exact (pointsTo_share (PosShare.mem_left_op_right _)).trans (sep_congr (pointsTo_share (PosShare.mem_left_op_right _)) (pointsTo_share (PosShare.mem_left_op_right _)))
theorem srcW_quarters (c : Dev nD) : srcW ws c fullShare ⊣⊢ iprop((srcW ws c (quarter 0) ∗ srcW ws c (quarter 1)) ∗ srcW ws c (quarter 2) ∗ srcW ws c (quarter 3)) := by
  unfold srcW
  exact (pointsTo_share (PosShare.mem_left_op_right _)).trans (sep_congr (pointsTo_share (PosShare.mem_left_op_right _)) (pointsTo_share (PosShare.mem_left_op_right _)))

set_option maxHeartbeats 1000000 in
/-- The gather on device `c`: it waits for nothing that is not paid, ends with both gathered arrays holding every device's
    operands, its own operands as they were, every counter at zero and nothing owed. -/
theorem gather_wp (κ : GSem nD τ sig → ℕ) (c : Dev nD) :
    iprop(gatherIn xs ws κ c ∗ (∃ W, owes (c : Thread nD τ) (owing (dues c)) W)
        ∗ (∃ f, ((c : Thread nD τ).loc main_v1_0) ↦{fullShare} f) ∗ (∃ f, ((c : Thread nD τ).loc main_v1_1) ↦{fullShare} f)
        ∗ srcX xs c fullShare ∗ srcW ws c fullShare)
      ⊢ wp frame (wpE (defs₀ (F := F)) 𝒱₀ (c : Thread nD τ) none) Set.univ gatherProg fun _ =>
        (iprop(gatherOut c ∗ (∃ W, owes (c : Thread nD τ) 0 W)
          ∗ (((c : Thread nD τ).loc main_v1_0) ↦{fullShare} gatherX xs) ∗ (((c : Thread nD τ).loc main_v1_1) ↦{fullShare} gatherW ws)
          ∗ srcX xs c fullShare ∗ srcW ws c fullShare) : sProp 𝕄) := by
  unfold gatherProg
  rw [cc0__gather_body_eq_skeleton]
  unfold cc0__gather_body_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold gatherIn
  rw [bigSep_of14, bigSep_of17, bigSep_of7]
  iintro ⟨⟨#HR, #Hlev, #Hall, Ab, ⟨AsX1, AsX2, AsX3, ArX1, ArX2, ArX3, AsW1, AsW2, AsW3, ArW1, ArW2, ArW3, AlX, AlW⟩, ⟨Tb1, Tb2, Tb3, TrX1, TrW1, TrX2, TrW2, TrX3, TrW3, TsX1, TsW1, TsX2, TsW2, TsX3, TsW3, TlX, TlW⟩, Cb, CrX1, CrW1, CrX2, CrW2, CrX3, CrW3⟩, ⟨%W, HO⟩, ⟨%f, HX⟩, ⟨%g, HW⟩, HsX, HsW⟩
  ihave HX := (Entails.of_eq ((slotsX c f).trans (walked c _))) $$ HX
  icases HX with ⟨X0, X1, X2, X3⟩
  ihave HW := (Entails.of_eq ((slotsW c g).trans (walked c _))) $$ HW
  icases HW with ⟨W0, W1, W2, W3⟩
  ihave HsX := (srcX_quarters xs c).1 $$ HsX
  icases HsX with ⟨⟨SX0, SX1⟩, SX2, SX3⟩
  ihave HsW := (srcW_quarters ws c).1 $$ HsW
  icases HsW with ⟨⟨SW0, SW1⟩, SW2, SW3⟩
  -- the signal to the device 1 after
  iapply (op_signal xs ws κ c 1 3 (by decide) (around1 c) _ (dev1_eq c) ((dues c).drop 1) W _ _) $$ [HO Tb1 X1 W1]
  · isplitr; · iexact HR
    isplitl [HO]; · iexact HO
    isplitl [Tb1]; · iexact Tb1
    isplitl [X1]; · iexists f; iexact X1
    isplitl [W1]; · iexists g; iexact W1
    isplitr
    · iapply (reached_own c (rX 3) (by decide)); iexact Hall
    · iapply (reached_own c (rW 3) (by decide)); iexact Hall
  iintro HO
  -- the signal to the device 2 after
  iapply (op_signal xs ws κ c 2 2 (by decide) (around2 c) _ (dev2_eq c) ((dues c).drop 2) W _ _) $$ [HO Tb2 X2 W2]
  · isplitr; · iexact HR
    isplitl [HO]; · iexact HO
    isplitl [Tb2]; · iexact Tb2
    isplitl [X2]; · iexists f; iexact X2
    isplitl [W2]; · iexists g; iexact W2
    isplitr
    · iapply (reached_own c (rX 2) (by decide)); iexact Hall
    · iapply (reached_own c (rW 2) (by decide)); iexact Hall
  iintro HO
  -- the signal to the device 3 after
  iapply (op_signal xs ws κ c 3 1 (by decide) (around3 c) _ (dev3_eq c) ((dues c).drop 3) W _ _) $$ [HO Tb3 X3 W3]
  · isplitr; · iexact HR
    isplitl [HO]; · iexact HO
    isplitl [Tb3]; · iexact Tb3
    isplitl [X3]; · iexists f; iexact X3
    isplitl [W3]; · iexists g; iexact W3
    isplitr
    · iapply (reached_own c (rX 1) (by decide)); iexact Hall
    · iapply (reached_own c (rW 1) (by decide)); iexact Hall
  iintro HO
  -- the barrier
  iapply (op_wait_bar xs ws κ c W _ _) $$ [Cb HO Ab]
  · isplitr; · iexact HR
    isplitr; · iexact Hlev
    isplitl [Cb]; · iexact Cb
    isplitl [HO]; · iexact HO
    iexact Ab
  unfold barPay
  iintro ⟨⟨%W', HO⟩, Ab, ⟨X1, W1, #RX1, #RW1⟩, ⟨X2, W2, #RX2, #RW2⟩, ⟨X3, W3, #RX3, #RW3⟩⟩
  -- the local copy
  iapply (op_copyX xs ws κ c _ rfl _ _ (k0_off1_eq c) _ _ _ _ _) $$ [SX0 X0 TlX]
  · isplitr; · iexact HR
    isplitl [SX0]; · iexact SX0
    isplitl [X0]; · iexists f; iexact X0
    isplitl [TlX]; · iexact TlX
    iapply (reached_own c lX rfl); iexact Hall
  iintro ClX
  -- the local copy
  iapply (op_copyW xs ws κ c _ rfl _ _ (k0_off2_eq c) _ _ _ _ _) $$ [SW0 W0 TlW]
  · isplitr; · iexact HR
    isplitl [SW0]; · iexact SW0
    isplitl [W0]; · iexists g; iexact W0
    isplitl [TlW]; · iexact TlW
    iapply (reached_own c lW rfl); iexact Hall
  iintro ClW
  -- step 1: the send
  iapply (op_sendX xs ws κ c 1 (by decide) _ (dev4_eq c) _ _ rfl rfl _ _ (k0_off1_eq c) _ _ _ _ ((dues c).drop 4) W' _ _) $$ [SX1 X1 HO TsX1 TrX1]
  · isplitr; · iexact HR
    isplitl [SX1]; · iexact SX1
    isplitl [X1]; · iexact X1
    isplitl [HO]; · iexact HO
    isplitl [TsX1]; · iexact TsX1
    isplitr; · iapply (reached_own c (sX 1) (by decide)); iexact Hall
    isplitl [TrX1]; · iexact TrX1
    iexact RX1
  iintro ⟨CsX1, HO⟩
  -- step 1: the send
  iapply (op_sendW xs ws κ c 1 (by decide) _ (dev5_eq c) _ _ rfl rfl _ _ (k0_off2_eq c) _ _ _ _ ((dues c).drop 5) W' _ _) $$ [SW1 W1 HO TsW1 TrW1]
  · isplitr; · iexact HR
    isplitl [SW1]; · iexact SW1
    isplitl [W1]; · iexact W1
    isplitl [HO]; · iexact HO
    isplitl [TsW1]; · iexact TsW1
    isplitr; · iapply (reached_own c (sW 1) (by decide)); iexact Hall
    isplitl [TrW1]; · iexact TrW1
    iexact RW1
  iintro ⟨CsW1, HO⟩
  -- step 2: the send
  iapply (op_sendX xs ws κ c 2 (by decide) _ (dev6_eq c) _ _ rfl rfl _ _ (k0_off1_eq c) _ _ _ _ ((dues c).drop 6) W' _ _) $$ [SX2 X2 HO TsX2 TrX2]
  · isplitr; · iexact HR
    isplitl [SX2]; · iexact SX2
    isplitl [X2]; · iexact X2
    isplitl [HO]; · iexact HO
    isplitl [TsX2]; · iexact TsX2
    isplitr; · iapply (reached_own c (sX 2) (by decide)); iexact Hall
    isplitl [TrX2]; · iexact TrX2
    iexact RX2
  iintro ⟨CsX2, HO⟩
  -- step 2: the send
  iapply (op_sendW xs ws κ c 2 (by decide) _ (dev7_eq c) _ _ rfl rfl _ _ (k0_off2_eq c) _ _ _ _ ((dues c).drop 7) W' _ _) $$ [SW2 W2 HO TsW2 TrW2]
  · isplitr; · iexact HR
    isplitl [SW2]; · iexact SW2
    isplitl [W2]; · iexact W2
    isplitl [HO]; · iexact HO
    isplitl [TsW2]; · iexact TsW2
    isplitr; · iapply (reached_own c (sW 2) (by decide)); iexact Hall
    isplitl [TrW2]; · iexact TrW2
    iexact RW2
  iintro ⟨CsW2, HO⟩
  -- step 3: the send
  iapply (op_sendX xs ws κ c 3 (by decide) _ (dev8_eq c) _ _ rfl rfl _ _ (k0_off1_eq c) _ _ _ _ ((dues c).drop 8) W' _ _) $$ [SX3 X3 HO TsX3 TrX3]
  · isplitr; · iexact HR
    isplitl [SX3]; · iexact SX3
    isplitl [X3]; · iexact X3
    isplitl [HO]; · iexact HO
    isplitl [TsX3]; · iexact TsX3
    isplitr; · iapply (reached_own c (sX 3) (by decide)); iexact Hall
    isplitl [TrX3]; · iexact TrX3
    iexact RX3
  iintro ⟨CsX3, HO⟩
  -- step 3: the send
  iapply (op_sendW xs ws κ c 3 (by decide) _ (dev9_eq c) _ _ rfl rfl _ _ (k0_off2_eq c) _ _ _ _ ((dues c).drop 9) W' _ _) $$ [SW3 W3 HO TsW3 TrW3]
  · isplitr; · iexact HR
    isplitl [SW3]; · iexact SW3
    isplitl [W3]; · iexact W3
    isplitl [HO]; · iexact HO
    isplitl [TsW3]; · iexact TsW3
    isplitr; · iapply (reached_own c (sW 3) (by decide)); iexact Hall
    isplitl [TrW3]; · iexact TrW3
    iexact RW3
  iintro ⟨CsW3, HO⟩
  ihave HO : iprop(∃ W, owes (c : Thread nD τ) 0 W) $$ [HO]
  · iexists W'; iexact HO
  -- step 1: received
  iapply (op_wait_dma xs ws κ c (rX 1) _ rfl (by decide) _ (slotX (k0_off3 c 1#32) _) _ _ Nx rfl (amt_rX c 1) _ _) $$ [CrX1 HO ArX1]
  · isplitr; · iexact HR
    isplitl [CrX1]; · iexact CrX1
    isplitl [HO]; · iexact HO
    iexact ArX1
  iintro ⟨HO, VrX1, PrX1⟩
  -- step 1: received
  iapply (op_wait_dma xs ws κ c (rW 1) _ rfl (by decide) _ (slotW (k0_off4 c 1#32) _) _ _ Nw rfl (amt_rW c 1) _ _) $$ [CrW1 HO ArW1]
  · isplitr; · iexact HR
    isplitl [CrW1]; · iexact CrW1
    isplitl [HO]; · iexact HO
    iexact ArW1
  iintro ⟨HO, VrW1, PrW1⟩
  -- step 2: received
  iapply (op_wait_dma xs ws κ c (rX 2) _ rfl (by decide) _ (slotX (k0_off3 c 2#32) _) _ _ Nx rfl (amt_rX c 2) _ _) $$ [CrX2 HO ArX2]
  · isplitr; · iexact HR
    isplitl [CrX2]; · iexact CrX2
    isplitl [HO]; · iexact HO
    iexact ArX2
  iintro ⟨HO, VrX2, PrX2⟩
  -- step 2: received
  iapply (op_wait_dma xs ws κ c (rW 2) _ rfl (by decide) _ (slotW (k0_off4 c 2#32) _) _ _ Nw rfl (amt_rW c 2) _ _) $$ [CrW2 HO ArW2]
  · isplitr; · iexact HR
    isplitl [CrW2]; · iexact CrW2
    isplitl [HO]; · iexact HO
    iexact ArW2
  iintro ⟨HO, VrW2, PrW2⟩
  -- step 3: received
  iapply (op_wait_dma xs ws κ c (rX 3) _ rfl (by decide) _ (slotX (k0_off3 c 3#32) _) _ _ Nx rfl (amt_rX c 3) _ _) $$ [CrX3 HO ArX3]
  · isplitr; · iexact HR
    isplitl [CrX3]; · iexact CrX3
    isplitl [HO]; · iexact HO
    iexact ArX3
  iintro ⟨HO, VrX3, PrX3⟩
  -- step 3: received
  iapply (op_wait_dma xs ws κ c (rW 3) _ rfl (by decide) _ (slotW (k0_off4 c 3#32) _) _ _ Nw rfl (amt_rW c 3) _ _) $$ [CrW3 HO ArW3]
  · isplitr; · iexact HR
    isplitl [CrW3]; · iexact CrW3
    isplitl [HO]; · iexact HO
    iexact ArW3
  iintro ⟨HO, VrW3, PrW3⟩
  -- step 1: sent
  iapply (op_wait_dma xs ws κ c (sX 1) _ rfl (by decide) _ (Memref.whole cc0_stg0_0) _ _ Nx rfl (amt_sX c 1) _ _) $$ [CsX1 HO AsX1]
  · isplitr; · iexact HR
    isplitl [CsX1]; · iexact CsX1
    isplitl [HO]; · iexact HO
    iexact AsX1
  iintro ⟨HO, VsX1, PsX1⟩
  -- step 1: sent
  iapply (op_wait_dma xs ws κ c (sW 1) _ rfl (by decide) _ (Memref.whole cc0_stg1_0) _ _ Nw rfl (amt_sW c 1) _ _) $$ [CsW1 HO AsW1]
  · isplitr; · iexact HR
    isplitl [CsW1]; · iexact CsW1
    isplitl [HO]; · iexact HO
    iexact AsW1
  iintro ⟨HO, VsW1, PsW1⟩
  -- step 2: sent
  iapply (op_wait_dma xs ws κ c (sX 2) _ rfl (by decide) _ (Memref.whole cc0_stg0_0) _ _ Nx rfl (amt_sX c 2) _ _) $$ [CsX2 HO AsX2]
  · isplitr; · iexact HR
    isplitl [CsX2]; · iexact CsX2
    isplitl [HO]; · iexact HO
    iexact AsX2
  iintro ⟨HO, VsX2, PsX2⟩
  -- step 2: sent
  iapply (op_wait_dma xs ws κ c (sW 2) _ rfl (by decide) _ (Memref.whole cc0_stg1_0) _ _ Nw rfl (amt_sW c 2) _ _) $$ [CsW2 HO AsW2]
  · isplitr; · iexact HR
    isplitl [CsW2]; · iexact CsW2
    isplitl [HO]; · iexact HO
    iexact AsW2
  iintro ⟨HO, VsW2, PsW2⟩
  -- step 3: sent
  iapply (op_wait_dma xs ws κ c (sX 3) _ rfl (by decide) _ (Memref.whole cc0_stg0_0) _ _ Nx rfl (amt_sX c 3) _ _) $$ [CsX3 HO AsX3]
  · isplitr; · iexact HR
    isplitl [CsX3]; · iexact CsX3
    isplitl [HO]; · iexact HO
    iexact AsX3
  iintro ⟨HO, VsX3, PsX3⟩
  -- step 3: sent
  iapply (op_wait_dma xs ws κ c (sW 3) _ rfl (by decide) _ (Memref.whole cc0_stg1_0) _ _ Nw rfl (amt_sW c 3) _ _) $$ [CsW3 HO AsW3]
  · isplitr; · iexact HR
    isplitl [CsW3]; · iexact CsW3
    isplitl [HO]; · iexact HO
    iexact AsW3
  iintro ⟨HO, VsW3, PsW3⟩
  iapply (op_wait_dma xs ws κ c lX _ rfl (by decide) _ (slotX (k0_off1 c) _) _ _ Nx rfl (amt_lX c) _ _) $$ [ClX HO AlX]
  · isplitr; · iexact HR
    isplitl [ClX]; · iexact ClX
    isplitl [HO]; · iexact HO
    iexact AlX
  iintro ⟨HO, VlX, PlX⟩
  iapply (op_wait_dma xs ws κ c lW _ rfl (by decide) _ (slotW (k0_off2 c) _) _ _ Nw rfl (amt_lW c) _ _) $$ [ClW HO AlW]
  · isplitr; · iexact HR
    isplitl [ClW]; · iexact ClW
    isplitl [HO]; · iexact HO
    iexact AlW
  iintro ⟨HO, VlW, PlW⟩
  -- the barrier cell closes, the slots join
  iapply (Entails.of_eq (fupd_wp_eq ..))
  imod (Rounds.cell_close ER (gatherRd xs ws) (Set.mem_univ (κ (barCell c))) id (duties_later xs ws (barCell c))) $$ [Ab] with Vb
  · isplitr; · iapply (inv_at xs ws κ (bar_mem c)); iexact HR
    iexact Ab
  imodintro
  ihave PlX := (Entails.of_eq (pay_lX xs ws c)) $$ PlX
  icases PlX with ⟨X0, SX0⟩
  ihave X1 := (Entails.of_eq (pay_rX xs ws c 1 (by decide))) $$ PrX1
  ihave SX1 := (Entails.of_eq (pay_sX xs ws c 1 (by decide))) $$ PsX1
  ihave X2 := (Entails.of_eq (pay_rX xs ws c 2 (by decide))) $$ PrX2
  ihave SX2 := (Entails.of_eq (pay_sX xs ws c 2 (by decide))) $$ PsX2
  ihave X3 := (Entails.of_eq (pay_rX xs ws c 3 (by decide))) $$ PrX3
  ihave SX3 := (Entails.of_eq (pay_sX xs ws c 3 (by decide))) $$ PsX3
  ihave PlW := (Entails.of_eq (pay_lW xs ws c)) $$ PlW
  icases PlW with ⟨W0, SW0⟩
  ihave W1 := (Entails.of_eq (pay_rW xs ws c 1 (by decide))) $$ PrW1
  ihave SW1 := (Entails.of_eq (pay_sW xs ws c 1 (by decide))) $$ PsW1
  ihave W2 := (Entails.of_eq (pay_rW xs ws c 2 (by decide))) $$ PrW2
  ihave SW2 := (Entails.of_eq (pay_sW xs ws c 2 (by decide))) $$ PsW2
  ihave W3 := (Entails.of_eq (pay_rW xs ws c 3 (by decide))) $$ PrW3
  ihave SW3 := (Entails.of_eq (pay_sW xs ws c 3 (by decide))) $$ PsW3
  rw [wp_ret]
  imodintro
  unfold gatherOut
  isplitl [Vb VsX1 VsX2 VsX3 VrX1 VrX2 VrX3 VsW1 VsW2 VsW3 VrW1 VrW2 VrW3 VlX VlW]
  · isplitl [Vb]; · iexact Vb
    rw [bigSep_of14]
    isplitl [VsX1]; · iexact VsX1
    isplitl [VsX2]; · iexact VsX2
    isplitl [VsX3]; · iexact VsX3
    isplitl [VrX1]; · iexact VrX1
    isplitl [VrX2]; · iexact VrX2
    isplitl [VrX3]; · iexact VrX3
    isplitl [VsW1]; · iexact VsW1
    isplitl [VsW2]; · iexact VsW2
    isplitl [VsW3]; · iexact VsW3
    isplitl [VrW1]; · iexact VrW1
    isplitl [VrW2]; · iexact VrW2
    isplitl [VrW3]; · iexact VrW3
    isplitl [VlX]; · iexact VlX
    iexact VlW
  isplitl [HO]; · iexact HO
  isplitl [X0 X1 X2 X3]
  · iapply (Entails.of_eq ((slotsX c (gatherX xs)).trans (walked_back c _)).symm)
    isplitl [X0]; · iexact X0
    isplitl [X1]; · iexact X1
    isplitl [X2]; · iexact X2
    iexact X3
  isplitl [W0 W1 W2 W3]
  · iapply (Entails.of_eq ((slotsW c (gatherW ws)).trans (walked_back c _)).symm)
    isplitl [W0]; · iexact W0
    isplitl [W1]; · iexact W1
    isplitl [W2]; · iexact W2
    iexact W3
  isplitl [SX0 SX1 SX2 SX3]
  · iapply (srcX_quarters xs c).2
    isplitl [SX0 SX1]
    · isplitl [SX0]; · iexact SX0
      iexact SX1
    isplitl [SX2]; · iexact SX2
    iexact SX3
  iapply (srcW_quarters ws c).2
  isplitl [SW0 SW1]
  · isplitl [SW0]; · iexact SW0
    iexact SW1
  isplitl [SW2]; · iexact SW2
  iexact SW3

end Cert.Proof
-- ==== Proof.Region.lean ====
module

public import proofs.«01_k».proof.Proof.Body
public import proofs.«01_k».proof.Proof.Gen.Own.KernelIdeal.K1.Frame
public import proofs.«01_k».proof.Proof.Gen.Own.KernelIdeal.RegionsD
public import Idealize.ShloMosaic.Lib.Pipeline.RegionTalk
public import Idealize.ShloMosaic.Lib.Pipeline.ValueKit

@[expose] public section

set_option maxRecDepth 16384

noncomputable section

namespace Cert.Proof

open Cert.KernelIdeal Cert.KernelIdeal.Gen Cert.KernelIdeal.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ UU ℕ

variable (m : (ℓ : Loc nD τ sig) → Buf (Elt F) ℓ)

/-! ## What the regions find and leave -/

/-- The operands as the devices hold them at launch. -/
def opX (p : Dev nD) : XBuf F := m ((p : Thread nD τ).loc main_arg0)
def opW (p : Dev nD) : WBuf F := m ((p : Thread nD τ).loc main_arg1)

/-- What the gather leaves: both gathered arrays. -/
def outsA : Outs (F := F) := fun _ r c =>
  Function.update (Function.update (fun r => m ((c : Thread nD τ).loc r)) main_v1_0 (gatherX (opX m))) main_v1_1 (gatherW (opW m)) r

/-- The product's proof data, entered on the gathered arrays. -/
def datG (c : Dev nD) : Dat τ (Elt F) Unit ℕ UU ℕ cfg1 c := K1.dat 𝒱₀ (Ve1 m (outsA m)) (fun _ => 0) c

/-- What the regions leave: the gathered arrays, then the product's result. -/
def outs : Outs (F := F)
  | 2 => fun r c => Function.update (fun r => m ((c : Thread nD τ).loc r)) main_v2 ((datG m c).arrAt 4 cfg1.N) r
  | J => outsA m J

theorem outs_one : outs m 1 = outsA m 1 := rfl
theorem outs_v1_0 (c : Dev nD) : outs m 1 main_v1_0 c = gatherX (opX m) := by
  rw [outs_one]; unfold outsA
  have h : (main_v1_0 : Ref sig .tc) ≠ main_v1_1 := by decide
  exact (Function.update_of_ne h _ _).trans (Function.update_self main_v1_0 _ _)
theorem outs_v1_1 (c : Dev nD) : outs m 1 main_v1_1 c = gatherW (opW m) := by
  rw [outs_one]; unfold outsA
  exact Function.update_self main_v1_1 _ _
theorem outs_v2 (c : Dev nD) : outs m 2 main_v2 c = (datG m c).arrAt 4 cfg1.N := by
  unfold outs
  exact Function.update_self main_v2 _ _

/-! ## The gather's proof data -/

/-- Window 0 and window 1 of the gather stage whole operands. -/
theorem blkX (c : Dev nD) (t : Fin cfg0.N) : ((cfg0.win 0).blk t).view.read (Elt F) (opX m c) = opX m c := by
  funext j
  show opX m c ((win0_0.blk t).view.emb j) = opX m c j
  exact congrArg _ (funext fun a => Fin.ext (win0_0.rect_emb_val_of_index_zero t a rfl j))
theorem blkW (c : Dev nD) (t : Fin cfg0.N) : ((cfg0.win 1).blk t).view.read (Elt F) (opW m c) = opW m c := by
  funext j
  show opW m c ((win0_1.blk t).view.emb j) = opW m c j
  exact congrArg _ (funext fun a => Fin.ext (win0_1.rect_emb_val_of_index_zero t a rfl j))

/-- The scratch semaphores that no step uses. -/
def deadSem : Fin 4 → DmaSem sig := ![sX 0, rX 0, sW 0, rW 0]
/-- The gather's semaphores: those in use, and the others. -/
def osem : Fin 18 → SemLoc sig :=
  ![.dma (liveSem 0), .dma (liveSem 1), .dma (liveSem 2), .dma (liveSem 3), .dma (liveSem 4), .dma (liveSem 5), .dma (liveSem 6),
    .dma (liveSem 7), .dma (liveSem 8), .dma (liveSem 9), .dma (liveSem 10), .dma (liveSem 11), .dma (liveSem 12), .dma (liveSem 13),
    .dma (deadSem 0), .dma (deadSem 1), .dma (deadSem 2), .dma (deadSem 3)]

theorem ownFacts : Pipeline.OwnSemFacts spec0 osem := by decide

theorem sep_assoc_eq' (P Q R : sProp 𝕄) : iprop((P ∗ Q) ∗ R) = iprop(P ∗ Q ∗ R) := Std.Associative.assoc (op := fun A B : sProp 𝕄 => BI.sep A B) P Q R

theorem ownSems_split (c : Dev nD) : (Pipeline.ownSems0 osem c : sProp 𝕄)
    = iprop((bigSep Finset.univ fun i : Fin 14 => semVal (dmaCell c (liveSem i)) 0) ∗ bigSep Finset.univ fun i : Fin 4 => semVal (dmaCell c (deadSem i)) 0) := by
  unfold Pipeline.ownSems0
  rw [bigSep_univ_eq_bigSepL [0, 1, 2, 3, 4, 5, 6, 7, 8, 9, 10, 11, 12, 13, 14, 15, 16, 17] (by decide) (by decide), bigSep_of14, bigSep_of4]
  simp only [sep_assoc_eq']
  rfl

/-- What enters the gather's region and what leaves it, beside the arrays. -/
def Xk (c : Dev nD) : sProp 𝕄 :=
  iprop((∃ κ, gatherIn (opX m) (opW m) κ c) ∗ bigSep Finset.univ fun i : Fin 4 => semVal (dmaCell c (deadSem i)) 0)
def Yk (c : Dev nD) : sProp 𝕄 := semVal (barCell c) 0

/-- The gathered arrays, as device buffers. -/
abbrev Hs : Finset (DevRef τ sig) := {Proc.devRef .tc main_v1_0, Proc.devRef .tc main_v1_1}

theorem held_Hs (c : Dev nD) (W : Valuation τ sig (Elt F)) : (StableHlo.held (c : Thread nD τ) Hs W : sProp 𝕄)
    = iprop((((c : Thread nD τ).loc main_v1_0) ↦{fullShare} W main_v1_0) ∗ (((c : Thread nD τ).loc main_v1_1) ↦{fullShare} W main_v1_1)) := by
  unfold StableHlo.held
  rw [bigSep_insert (by decide), bigSep_singleton]
  rfl

/-- The gather's proof data: owing its dues before its one point, nothing after. -/
def dat0 (c : Dev nD) : Dat τ (Elt F) Unit ℕ UU ℕ cfg0 c where
  A w := V0 m c (Proc.devRef .tc (Pipeline.arrRef spec0 w))
  after w t := match w with
    | ⟨0, _⟩ => opX m c
    | ⟨1, _⟩ => opW m c
  Φ t := if t.val = 0 then iprop(Pipeline.scopedRest (Ix := Unit) (Name := ℕ) (U := UU) (Lvl := ℕ) (Val := Elt F) spec0 c ∗ (∃ r, prngReg c r)
        ∗ StableHlo.held (c : Thread nD τ) Hs (V0 m c) ∗ Xk m c)
      else iprop(Pipeline.scopedRest (Ix := Unit) (Name := ℕ) (U := UU) (Lvl := ℕ) (Val := Elt F) spec0 c ∗ (∃ r, prngReg c r)
        ∗ StableHlo.held (c : Thread nD τ) Hs (V1 m (outs m) c) ∗ Pipeline.ownSems0 osem c ∗ Yk c)
  q _ := fullShare
  owed t := if t.val = 0 then owing (dues c) else 0

theorem before0_0 (c : Dev nD) (t : Fin cfg0.N) (d) : (dat0 m c).before 0 t d = opX m c :=
  ((dat0 m c).before_in_eq_fetched 0 rfl (fun _ => rfl) (fun _ _ _ => rfl) (fun t => (blkX m c t).symm) t d).trans (blkX m c t)
theorem before0_1 (c : Dev nD) (t : Fin cfg0.N) (d) : (dat0 m c).before 1 t d = opW m c :=
  ((dat0 m c).before_in_eq_fetched 1 rfl (fun _ => rfl) (fun _ _ _ => rfl) (fun t => (blkW m c t).symm) t d).trans (blkW m c t)

theorem row0 (t : Fin cfg0.N) : defs₀ (F := F) .tc cfg0.body (cfg0.bodyArgs t (cfg0.slots t)) = gatherProg := by
  unfold defs₀; rw [Defs.onTc_tc]

end Cert.Proof
-- ==== Proof.Talk.lean ====
module

public import proofs.«01_k».proof.Proof.Region

@[expose] public section

set_option maxRecDepth 16384

noncomputable section

namespace Cert.Proof

open Cert.KernelIdeal Cert.KernelIdeal.Gen Cert.KernelIdeal.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ UU ℕ

variable (m : (ℓ : Loc nD τ sig) → Buf (Elt F) ℓ)

/-! ## The gather's one point -/

/-- What the gather owes before its point, and after. -/
theorem owed0_zero (c : Dev nD) : (dat0 m c).owed 0 = owing (dues c) := by
  show (if (0 : Fin (cfg0.N + 1)).val = 0 then owing (dues c) else 0) = owing (dues c)
  exact if_pos rfl
theorem owed0_first (c : Dev nD) : (dat0 m c).owed t0_0.castSucc = owing (dues c) := by
  show (if (t0_0.castSucc : Fin (cfg0.N + 1)).val = 0 then owing (dues c) else 0) = owing (dues c)
  exact if_pos rfl
theorem owed0_last (c : Dev nD) : (dat0 m c).owed (Fin.last _) = 0 := by
  show (if (Fin.last cfg0.N).val = 0 then owing (dues c) else 0) = 0
  rw [Fin.val_last, if_neg (by rw [show cfg0.N = 1 from N_0]; decide)]

/-- A tally held is the region's tally at a point where nothing bounds the waits recorded. -/
theorem owes_in (c : Dev nD) (t : Fin (cfg0.N + 1)) (O : CellTallies nD τ sig Unit) (h : (dat0 m c).owed t = O) :
    iprop(∃ W, owes (c : Thread nD τ) O W) ⊢ ((dat0 m c).owesAt () t : sProp 𝕄) := by
  unfold Dat.owesAt Pipeline.owesWithin Dat.bound
  rw [h]
  iintro ⟨%W, HO⟩
  iexists W
  isplitr
  · ipureintro; exact fun _ _ => Or.inl trivial
  · iexact HO
theorem owes_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, HO⟩
  iexists W; iexact HO

/-- A staging buffer of the gather, owned whole, is its points-to. -/
theorem owns_srcX (c : Dev nD) (f : XBuf F) :
    (owns (c : Thread nD τ) (Memref.whole cc0_stg0_0) fullShare f : sProp 𝕄) = (((c : Thread nD τ).loc cc0_stg0_0) ↦{fullShare} f) := by
  have e₁ : (owns (c : Thread nD τ) (Memref.whole cc0_stg0_0) fullShare f : sProp 𝕄) ⊢ (((c : Thread nD τ).loc cc0_stg0_0) ↦{fullShare} f) := by
    unfold owns
    rw [View.set_whole]
    iintro ⟨%g, %h, H⟩
    obtain rfl : g = f := h
    iexact H
  have e₂ : (((c : Thread nD τ).loc cc0_stg0_0) ↦{fullShare} f : sProp 𝕄) ⊢ owns (c : Thread nD τ) (Memref.whole cc0_stg0_0) fullShare f := by
    unfold owns
    rw [View.set_whole]
    iintro H
    iexists f
    isplitr
    · ipureintro; rfl
    · iexact H
  exact equiv_iff.mp ⟨e₁, e₂⟩
theorem owns_srcW (c : Dev nD) (f : WBuf F) :
    (owns (c : Thread nD τ) (Memref.whole cc0_stg1_0) fullShare f : sProp 𝕄) = (((c : Thread nD τ).loc cc0_stg1_0) ↦{fullShare} f) := by
  have e₁ : (owns (c : Thread nD τ) (Memref.whole cc0_stg1_0) fullShare f : sProp 𝕄) ⊢ (((c : Thread nD τ).loc cc0_stg1_0) ↦{fullShare} f) := by
    unfold owns
    rw [View.set_whole]
    iintro ⟨%g, %h, H⟩
    obtain rfl : g = f := h
    iexact H
  have e₂ : (((c : Thread nD τ).loc cc0_stg1_0) ↦{fullShare} f : sProp 𝕄) ⊢ owns (c : Thread nD τ) (Memref.whole cc0_stg1_0) fullShare f := by
    unfold owns
    rw [View.set_whole]
    iintro H
    iexists f
    isplitr
    · ipureintro; rfl
    · iexact H
  exact equiv_iff.mp ⟨e₁, e₂⟩

/-- The valuation after the gather, at the gathered arrays. -/
theorem V1_v1_0 (c : Dev nD) : V1 m (outs m) c main_v1_0 = gatherX (opX m) := by
  have h : (Proc.devRef .tc main_v1_0 : DevRef τ sig) ≠ Proc.devRef .tc main_v1_1 := by decide
  exact (Function.update_of_ne h _ _).trans ((Function.update_self (Proc.devRef .tc main_v1_0) _ _).trans (outs_v1_0 m c))
theorem V1_v1_1 (c : Dev nD) : V1 m (outs m) c main_v1_1 = gatherW (opW m) :=
  (Function.update_self (Proc.devRef .tc main_v1_1) _ _).trans (outs_v1_1 m c)

/-- The gather's body meets its obligation. -/
theorem body0 (c : Dev nD) : BodyObligation (dat0 (F := F) m c) defs₀ 𝒱₀ () Set.univ := fun t => by
  obtain rfl := fin_N0 t
  rw [bigSep_W0, bigSep_W0, row0]
  rw [show (dat0 m c).Φ t0_0.castSucc = iprop(Pipeline.scopedRest (Ix := Unit) (Name := ℕ) (U := UU) (Lvl := ℕ) (Val := Elt F) spec0 c ∗ (∃ r, prngReg c r)
        ∗ StableHlo.held (c : Thread nD τ) Hs (V0 m c) ∗ Xk m c) from rfl,
    show (dat0 m c).Φ t0_0.succ = iprop(Pipeline.scopedRest (Ix := Unit) (Name := ℕ) (U := UU) (Lvl := ℕ) (Val := Elt F) spec0 c ∗ (∃ r, prngReg c r)
        ∗ StableHlo.held (c : Thread nD τ) Hs (V1 m (outs m) c) ∗ Pipeline.ownSems0 osem c ∗ Yk c) from rfl,
    held_Hs, held_Hs, ownSems_split, V1_v1_0, V1_v1_1]
  unfold Xk Yk
  iintro ⟨⟨Hr, Hp, ⟨Hx, Hw⟩, ⟨%κ, Hg⟩, Hd⟩, HO, ⟨%d0, H0⟩, ⟨%d1, H1⟩⟩
  ihave HO := (owes_out m c _ _ (owed0_first m c)) $$ HO
  ihave H0 := (Entails.of_eq ((congrArg (fun f => owns (c : Thread nD τ) (Memref.whole cc0_stg0_0) fullShare f) (before0_0 m c t0_0 d0)).trans (owns_srcX c (opX m c)))) $$ H0
  ihave H1 := (Entails.of_eq ((congrArg (fun f => owns (c : Thread nD τ) (Memref.whole cc0_stg1_0) fullShare f) (before0_1 m c t0_0 d1)).trans (owns_srcW c (opW m c)))) $$ H1
  iapply (wp_wand_r frame (wpE (defs₀ (F := F)) 𝒱₀ (c : Thread nD τ) none))
  isplitl [Hg HO Hx Hw H0 H1]
  · iapply (gather_wp (opX m) (opW m) κ c)
    isplitl [Hg]; · iexact Hg
    isplitl [HO]; · iexact HO
    isplitl [Hx]; · iexists _; iexact Hx
    isplitl [Hw]; · iexists _; iexact Hw
    isplitl [H0]; · unfold srcX; iexact H0
    unfold srcW; iexact H1
  iintro %_u ⟨Ho, HO, Hx, Hw, H0, H1⟩
  unfold gatherOut
  icases Ho with ⟨Hb, Hs⟩
  isplitl [Hr Hp Hx Hw Hd Hb Hs]
  · isplitl [Hr]; · iexact Hr
    isplitl [Hp]; · iexact Hp
    isplitl [Hx Hw]; · isplitl [Hx] <;> iassumption
    isplitl [Hs Hd]; · isplitl [Hs] <;> iassumption
    iexact Hb
  isplitl [HO]; · iapply (owes_in m c t0_0.succ 0 (owed0_last m c)); iexact HO
  isplitl [H0]
  · iapply (Entails.of_eq (owns_srcX c (opX m c)).symm); unfold srcX; iexact H0
  · iapply (Entails.of_eq (owns_srcW c (opW m c)).symm); unfold srcW; iexact H1

/-! ## Opening the gather's cells -/

/-- What a device holds of the schedule up to the gather: its cells not yet opened, its payments, the credits to it. -/
def Tk (c : Dev nD) : sProp 𝕄 :=
  iprop((∃ κ, records (opX m) (opW m) κ ∗ atPos ER (barCell c) 0 ∅ 0 ∗ (bigSep Finset.univ fun i : Fin 14 => openTok ER (dmaCell c (liveSem i)))
      ∗ bigSep Finset.univ fun i : Fin 17 => dutyTok ER (tokCell c i) 0 (tokDuty i))
    ∗ bigSep Finset.univ fun i : Fin 7 => cred (tallyAt (credCell c i) () (credAmt i)))

/-- The live semaphores at zero open the device's cells. -/
theorem openAll (κ : GSem nD τ sig → ℕ) (c : Dev nD) :
    iprop(records (opX m) (opW m) κ ∗ bigSep Finset.univ fun i : Fin 14 => iprop(openTok ER (dmaCell c (liveSem i)) ∗ semVal (dmaCell c (liveSem i)) 0))
      ⊢ (|={Set.univ}=> bigSep Finset.univ fun i : Fin 14 => iprop(atPos ER (dmaCell c (liveSem i)) 0 ∅ 0 ∗ reached ER (dmaCell c (liveSem i)) 0) : sProp 𝕄) := by
  refine (bigSep_with_persistent (R := records (opX m) (opW m) κ) (Ψ := fun i : Fin 14 => iprop(|={Set.univ}=> (atPos ER (dmaCell c (liveSem i)) 0 ∅ 0 ∗ reached ER (dmaCell c (liveSem i)) 0))) fun i _ => ?_).trans (bigSep_fupd _ _)
  iintro ⟨#HR, Ho, Hs⟩
  ihave HI := (inv_at (opX m) (opW m) κ (dma_mem c (liveSem i) (liveSem_live i))) $$ HR
  iapply (Rounds.cell_open ER (gatherRd (opX m) (opW m)) (g := dmaCell c (liveSem i)) (Set.mem_univ (κ (dmaCell c (liveSem i)))))
  isplitl [HI]; · iexact HI
  isplitl [Ho] <;> iassumption

theorem hopen0 (c : Dev nD) : iprop(Tk m c ∗ Pipeline.ownSems0 osem c ∗ levAts L lv) ⊢ (|={Set.univ}=> Xk m c : sProp 𝕄) := by
  rw [ownSems_split]
  unfold Tk Xk gatherIn reachedAll
  iintro ⟨⟨⟨%κ, #HR, Hb, Ho, Ht⟩, Hc⟩, ⟨Hs, Hd⟩, #HL⟩
  imod (openAll m κ c) $$ [Ho Hs] with H
  · isplitr; · iexact HR
    rw [bigSep_sep']
    isplitl [Ho] <;> iassumption
  ihave H := (Entails.of_eq (bigSep_sep' (s := Finset.univ) (Φ := fun i : Fin 14 => atPos ER (dmaCell c (liveSem i)) 0 ∅ 0) (Ψ := fun i : Fin 14 => reached ER (dmaCell c (liveSem i)) 0))) $$ H
  icases H with ⟨Ha, Hq⟩
  imodintro
  isplitr [Hd]
  · iexists κ
    isplitr; · iexact HR
    isplitr; · iexact HL
    isplitl [Hq]; · iexact Hq
    isplitl [Hb]; · iexact Hb
    isplitl [Ha]; · iexact Ha
    isplitl [Ht] <;> iassumption
  iexact Hd

end Cert.Proof
-- ==== Proof.Segments.lean ====
module

public import proofs.«01_k».proof.Proof.Talk

@[expose] public section

set_option maxRecDepth 16384

noncomputable section

namespace Cert.Proof

open Cert.KernelIdeal Cert.KernelIdeal.Gen Cert.KernelIdeal.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ UU ℕ

variable (m : (ℓ : Loc nD τ sig) → Buf (Elt F) ℓ)

/-! ## Both regions' proof data -/

/-- The gather's data and the product's. -/
def pd : (p : Fin 2) → (c : Dev nD) → Dat τ (Elt F) Unit ℕ UU ℕ (cfgs p) c
  | 0 => dat0 m
  | 1 => datG m
/-- The same as the generated product record takes them. -/
abbrev pds : (p : Fin 2) → (c : Dev nD) → Dat τ (Elt F) Unit ℕ UU ℕ (cfgs p) c :=
  pdatsD (U := UU) (Lvl := ℕ) m (outs m) 𝒱₀ (pd m) fun _ => 0

/-! ## The gather's region -/

/-- The unscoped buffers that are not the gather's window arrays. -/
abbrev Sr : Finset (DevRef τ sig) := Pipeline.ucRefs τ sig \ Pipeline.arrRefs (τ := τ) spec0

theorem Hs_sub : Hs ⊆ Sr := by decide
theorem arr0_S : Pipeline.arrRefs (τ := τ) spec0 ⊆ Pipeline.ucRefs τ sig := Pipeline.arrRefs_sub_ucRefs spec0 (by decide)

/-- The gather changes the gathered arrays alone. -/
theorem rest0 (c : Dev nD) : ∀ b ∈ Sr \ Hs, V1 m (outs m) c b = V0 m c b := fun b hb => by
  have hn : b ∉ Hs := (Finset.mem_sdiff.mp hb).2
  have h0 : b ≠ Proc.devRef .tc main_v1_0 := fun h => hn (Finset.mem_insert.mpr (.inl h))
  have h1 : b ≠ Proc.devRef .tc main_v1_1 := fun h => hn (Finset.mem_insert.mpr (.inr (Finset.mem_singleton.mpr h)))
  exact (Function.update_of_ne h1 _ _).trans (Function.update_of_ne h0 _ _)

theorem stage_level0 : ∀ (w : Fin cfg0.W) (s : Fin (cfg0.win w).nbuf), lvOf (.dma ((cfg0.win w).sem s)) = 0 := by decide

theorem cut0 : Pipeline.LevelCutOwed (pcfgs (F := F)) adm (pds m) () L lv 0 fun _ => 0 where
  hι c w s := by rw [L_tc]; exact Finset.mem_singleton_self _
  hιb c w s := Nat.le_of_eq (stage_level0 w s)
  hD c t g i h := by
    have e : (pds m 0 c).owed t = if t.val = 0 then owing (dues c) else 0 := rfl
    rw [e] at h
    split at h
    · exact dues_level c g i h
    · exact absurd h (Nat.lt_irrefl 0)

theorem hin0 (c : Dev nD) : iprop(Pipeline.scopedRest (Ix := Unit) (Name := ℕ) (U := UU) (Lvl := ℕ) (Val := Elt F) spec0 c ∗ (∃ r, prngReg c r)
    ∗ StableHlo.held (c : Thread nD τ) Hs (V0 m c) ∗ Xk m c) ⊢ (pds m 0 c).Φ 0 :=
  Entails.of_eq rfl
theorem hout0 (c : Dev nD) : (pds m 0 c).Φ (Fin.last cfg0.N)
    ⊢ iprop(Pipeline.scopedRest (Ix := Unit) (Name := ℕ) (U := UU) (Lvl := ℕ) (Val := Elt F) spec0 c ∗ (∃ r, prngReg c r)
      ∗ StableHlo.held (c : Thread nD τ) Hs (V1 m (outs m) c) ∗ Pipeline.ownSems0 osem c ∗ Yk c) :=
  Entails.of_eq rfl

theorem arr_in0 (c : Dev nD) : ∀ w : Fin cfg0.W, (dat0 m c).arrAt w 0 = V0 m c (Proc.devRef .tc (Pipeline.arrRef spec0 w)) := fun | 0 => rfl | 1 => rfl
theorem arr_out0 (c : Dev nD) : ∀ w : Fin cfg0.W, (dat0 m c).arrAt w cfg0.N = V1 m (outs m) c (Proc.devRef .tc (Pipeline.arrRef spec0 w))
  | 0 => ((dat0 m c).arrAt_in 0 rfl _).trans (V1_of m (outs m) c (Pipeline.arrRef spec0 0) (by decide)).symm
  | 1 => ((dat0 m c).arrAt_in 1 rfl _).trans (V1_of m (outs m) c (Pipeline.arrRef spec0 1) (by decide)).symm

set_option backward.isDefEq.respectTransparency.types false in
/-- The gather's region: entered at the launch's contents owing the dues, left with both gathered arrays and nothing owed. -/
def reg0 : RegionSeg (pcfgs (F := F)) adm (pds m) () defs₀ 𝒱₀ L lv 0 :=
  RegionSeg.ofTalk (pcfgs (F := F)) adm (pds m) () defs₀ 𝒱₀ L lv 0 osem ownFacts Hs Sr Hs_sub launch0.toP rfl (fun c => (body0 m c).loose)
    (fun _ => 0) (fun c => owing (dues c)) (fun c => (owed0_zero m c).trans (zero_add _).symm) (owed0_last m) (fun _ => rfl)
    (fun c => (dat0 m c).share_full fun _ => rfl)
    (V0 m) (V1 m (outs m)) (rest0 m) (Tk m) Yk (Xk m) Yk (hopen0 m) (hin0 m) (hout0 m)
    (fun c => by iintro H; imodintro; iexact H)
    (fun _ => 0) (cut0 m) (fun _ => iprop(emp)) (arr_in0 m) (arr_out0 m)

/-- What a device holds beside its buffers at launch, and from the gather on. -/
def E0 (c : Dev nD) : sProp 𝕄 := iprop(Tk m c ∗ (∃ r, prngReg c r) ∗ ∃ W, owes (c : Thread nD τ) (owing (dues c)) W)
def E1 (c : Dev nD) : sProp 𝕄 := iprop((∃ r, prngReg c r) ∗ (∃ W, owes (c : Thread nD τ) (0 : CellTallies nD τ sig Unit) W) ∗ Yk c)
/-- The three thread states' rests. -/
def Es : Fin 3 → Dev nD → sProp 𝕄 := ![E0 m, E1, E1]

theorem reg0_pre (c : Dev nD) : iprop(StableHlo.held (c : Thread nD τ) (Pipeline.ucRefs τ sig) (V0 m c) ∗ E0 m c) ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) Sr (V0 m c) ∗ emp) ∗ Tk m c ∗ ∃ Wd, owes (c : Thread nD τ) (0 + owing (dues c)) Wd)
  rw [zero_add, StableHlo.held_sub_split (c : Thread nD τ) arr0_S (V0 m c)]
  unfold E0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c ⊢ iprop(StableHlo.held (c : Thread nD τ) (Pipeline.ucRefs τ sig) (V1 m (outs m) c) ∗ E1 c) := by
  show iprop(StableHlo.held (c.tc : Thread nD τ) (Pipeline.arrRefs (τ := τ) spec0) (V1 m (outs m) c) ∗ (∃ r, prngReg c r)
    ∗ (StableHlo.held (c.tc : Thread nD τ) Sr (V1 m (outs m) c) ∗ emp) ∗ Yk c ∗ ∃ Wd, owes (c : Thread nD τ) (0 : CellTallies nD τ sig Unit) Wd) ⊢ _
  rw [StableHlo.held_sub_split (c : Thread nD τ) arr0_S (V1 m (outs m) c)]
  unfold E1
  iintro ⟨Ha, Hp, ⟨Hr, -⟩, HY, HO⟩
  isplitl [Ha Hr]; · isplitl [Ha] <;> iassumption
  isplitl [Hp]; · iexact Hp
  isplitl [HO] <;> iassumption

/-! ## The product's region -/

theorem stage_level1 : ∀ (w : Fin cfg1.W) (s : Fin (cfg1.win w).nbuf), lvOf (.dma ((cfg1.win w).sem s)) = 0 := by decide

theorem cut1 : Pipeline.LevelCut (pcfgs (F := F)) adm () L lv 1 (fun _ => 0) fun _ => 0 where
  hι c w s := by rw [L_tc]; exact Finset.mem_singleton_self _
  hιb c w s := Nat.le_of_eq (stage_level1 w s)
  hD c g i h := absurd h (Nat.lt_irrefl 0)

theorem hout1 (c : Dev nD) : outs m 2 main_v2 c = (pds m 1 c).arrAt 4 cfg1.N := outs_v2 m c

/-- The product's region. -/
def reg1 : RegionSeg (pcfgs (F := F)) adm (pds m) () defs₀ 𝒱₀ L lv 1 :=
  R1D m (outs m) 𝒱₀ L lv () (pd m) (fun _ => 0) (fun _ => 0) cut1 Yk (hout1 m)

theorem reg1_pre (c : Dev nD) : iprop(StableHlo.held (c : Thread nD τ) (Pipeline.ucRefs τ sig) (V1 m (outs m) c) ∗ E1 c) ⊢ (reg1 m).pre c :=
  hpre1D m (outs m) 𝒱₀ L lv () (pd m) (fun _ => 0) (fun _ => 0) cut1 (Es m) Yk (fun _ => .rfl) (hout1 m) c
theorem reg1_post (c : Dev nD) : (reg1 m).post c ⊢ iprop(StableHlo.held (c : Thread nD τ) (Pipeline.ucRefs τ sig) (V2 m (outs m) c) ∗ E1 c) :=
  hpost1D m (outs m) 𝒱₀ L lv () (pd m) (fun _ => 0) (fun _ => 0) cut1 (Es m) Yk (fun _ => .rfl) (hout1 m) c

end Cert.Proof
-- ==== Proof.Launch.lean ====
module

public import proofs.«01_k».proof.Proof.Segments

@[expose] public section

set_option maxRecDepth 16384

noncomputable section

namespace Cert.Proof

open Cert.KernelIdeal Cert.KernelIdeal.Gen Cert.KernelIdeal.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem dma_ne_bar : ∀ s : DmaSem sig, (SemLoc.dma s : SemLoc sig) ≠ .reg barS := by decide

theorem cells_disjoint : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact dma_ne_bar (liveSem ck.2) (congrArg Prod.snd h)

/-- Every duty has one payer: the payments of all the devices are different. -/
theorem pay_inj : Function.Injective fun ck : Dev nD × Fin 17 => (tokCell ck.1 ck.2, tokDuty ck.2) := by decide +kernel
def payEmb : Dev nD × Fin 17 ↪ GSem nD τ sig × ℕ × Fin 4 :=
  ⟨fun ck => (tokCell ck.1 ck.2, 0, tokDuty ck.2), fun _ _ h =>
    pay_inj (Prod.ext (congrArg (fun t : GSem nD τ sig × ℕ × Fin 4 => t.1) h) (congrArg (fun t : GSem nD τ sig × ℕ × Fin 4 => t.2.2) h))⟩
/-- The tokens of all the payments. -/
def pays : Finset (GSem nD τ sig × ℕ × Fin 4) := Finset.univ.map payEmb

/-- The launch element: the pipelines' own, and the schedule's. -/
def u₀ : UU :=
  (initOf (Pipeline.cells (Pipeline.pin (pcfgs (F := F)) adm) cellOf_inj) (Pipeline.launchToks (Pipeline.pin (pcfgs (F := F)) adm) cellOf_inj),
    launchOf barCells dmaCells pays)

/-- The schedule's part, kept on one device until all are dealt with together. -/
def G (c : Dev nD) : sProp 𝕄 := if c = 0 then BI.own (ER (launchOf barCells dmaCells pays)) else iprop(emp)
theorem bigSep_G : bigSep Finset.univ (G (F := F)) = (BI.own (ER (launchOf barCells dmaCells pays)) : sProp 𝕄) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The launch credits -/

def credSem : Fin 7 → SemLoc sig := ![.reg barS, .dma (rX 1), .dma (rW 1), .dma (rX 2), .dma (rW 2), .dma (rX 3), .dma (rW 3)]
def credEmb : Fin 7 ↪ SemLoc sig := ⟨credSem, by decide⟩
theorem credCell_eq (c : Dev nD) : ∀ i : Fin 7, credCell c i = ((c : Thread nD τ), credSem i) := by
  intro i; fin_cases i <;> rfl

/-- All the devices together owe each cell its round. -/
theorem owed_times : ∀ (c : Dev nD) (i : Fin 7), ∑ d : Dev nD, (dues d).count (credCell c i) = if i = 0 then 3 else 1 := by decide +kernel
theorem owed_amount (c : Dev nD) : ∀ i : Fin 7, (if i = 0 then 3 else 1) * amt (credCell c i) = credAmt i := by
  intro i; fin_cases i <;> rfl
theorem owed_all (c : Dev nD) (i : Fin 7) : ∑ d : Dev nD, owing (dues d) (credCell c i) () = credAmt i := by
  rw [Finset.sum_congr rfl fun d _ => owing_count (dues d) (credCell c i), ← Finset.sum_mul, owed_times, owed_amount]

theorem launch_cred (c : Dev nD) (i : Fin 7) :
    tallyOn (credCell c i) (launchCredit (Pipeline.owing fun c => owing (dues c)) 0 (credCell c i)) = (tallyAt (credCell c i) () (credAmt i) : CellTallies nD τ sig Unit) := by
  unfold tallyAt
  refine congrArg _ (Finsupp.ext fun u => ?_)
  cases u
  rw [Pipeline.launchCredit_owing, Finsupp.single_eq_same, owed_all]

theorem creds (c : Dev nD) :
    (Pipeline.launchCred (fun c => owing (dues c)) c : sProp 𝕄) ⊢ bigSep Finset.univ fun i : Fin 7 => cred (tallyAt (credCell c i) () (credAmt i)) := by
  unfold Pipeline.launchCred
  refine (bigSep_subset (Finset.subset_univ (Finset.univ.map credEmb))).trans ?_
  rw [bigSep_map]
  refine bigSep_mono fun i _ => ?_
  rw [← launch_cred, credCell_eq]
  exact Entails.refl _

/-! ## What each device starts with -/

abbrev T₀ (c : Dev nD) : sProp 𝕄 := iprop(StableHlo.held (c : Thread nD τ) (Pipeline.ucRefs τ sig) (V0 m c) ∗ E0 m c)
abbrev Tₙ (c : Dev nD) : sProp 𝕄 := iprop(StableHlo.held (c : Thread nD τ) (Pipeline.ucRefs τ sig) (V2 m (outs m) c) ∗ Yk c)

/-- What stays with a device of the schedule's launch. -/
def linear (c : Dev nD) : sProp 𝕄 :=
  iprop(atPos ER (barCell c) 0 ∅ 0 ∗ (bigSep Finset.univ fun i : Fin 14 => openTok ER (dmaCell c (liveSem i)))
    ∗ bigSep Finset.univ fun i : Fin 17 => dutyTok ER (tokCell c i) 0 (tokDuty i))
/-- What of a device's launch is not the schedule's. -/
def bundle (c : Dev nD) : sProp 𝕄 :=
  iprop(StableHlo.held (c : Thread nD τ) (Pipeline.ucRefs τ sig) (V0 m c) ∗ (bigSep Finset.univ fun i : Fin 7 => cred (tallyAt (credCell c i) () (credAmt i)))
    ∗ owes (c : Thread nD τ) (owing (dues c)) ∅ ∗ ∃ r, prngReg c r)

theorem T₀_intro (κ : GSem nD τ sig → ℕ) (c : Dev nD) : iprop(records (opX m) (opW m) κ ∗ (linear c ∗ bundle m c)) ⊢ T₀ m c := by
  unfold bundle T₀ E0 Tk linear
  iintro ⟨#HR, ⟨Ha, Ho, Ht⟩, Hh, Hc, HO, Hp⟩
  isplitl [Hh]; · iexact Hh
  isplitl [Ha Ho Ht Hc]
  · isplitr [Hc]
    · iexists κ
      isplitr; · iexact HR
      isplitl [Ha]; · iexact Ha
      isplitl [Ho] <;> iassumption
    · iexact Hc
  isplitl [Hp]; · iexact Hp
  iexists ∅; iexact HO

theorem unscopedSems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem start_core (c : Dev nD) : iprop(unscopedBufs c (fun b => m ((c : Thread nD τ).loc b)) ∗ unscopedSems0 c
      ∗ owes (c : Thread nD τ) (owing (dues c)) ∅ ∗ Pipeline.launchCred (fun c => owing (dues c)) c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems_bar]
  unfold bundle
  iintro ⟨Hh, Hs, HO, Hc, Hp, HG⟩
  ihave Hc := (creds (F := F) c) $$ Hc
  isplitl [Hh HO Hc Hp]
  · isplitl [Hh]; · iexact Hh
    isplitl [Hc]; · iexact Hc
    isplitl [HO]; · iexact HO
    iexists (ρ c); iexact Hp
  isplitl [Hs] <;> iassumption

/-- The barrier cells' counters, their positions, the rights to open, the tokens: each dealt to its device. -/
theorem deal_sems : bigSep Finset.univ (fun c : Dev nD => (semVal (barCell c) 0 : sProp 𝕄)) = bigSep barCells fun g => (semVal g 0 : sProp 𝕄) :=
  (bigSep_map (s := Finset.univ) barEmb (Φ := fun g : GSem nD τ sig => (semVal g 0 : sProp 𝕄))).symm
theorem deal_pos : bigSep barCells (fun g => (atPos ER g 0 ∅ 0 : sProp 𝕄)) = bigSep Finset.univ fun c : Dev nD => (atPos ER (barCell c) 0 ∅ 0 : sProp 𝕄) :=
  bigSep_map (s := Finset.univ) barEmb (Φ := fun g : GSem nD τ sig => (atPos ER g 0 ∅ 0 : sProp 𝕄))
theorem deal_open : bigSep dmaCells (fun g => (openTok ER g : sProp 𝕄))
    = bigSep Finset.univ fun c : Dev nD => bigSep Finset.univ fun i : Fin 14 => (openTok ER (dmaCell c (liveSem i)) : sProp 𝕄) := by
  rw [bigSep_map, bigSep_univ_prod]
  rfl
theorem deal_pays : bigSep pays (fun x => (dutyTok ER x.1 x.2.1 x.2.2 : sProp 𝕄))
    = bigSep Finset.univ fun c : Dev nD => bigSep Finset.univ fun i : Fin 17 => (dutyTok ER (tokCell c i) 0 (tokDuty i) : sProp 𝕄) := by
  unfold pays
  rw [bigSep_map, bigSep_univ_prod]
  rfl

theorem start_all :
    iprop((bigSep Finset.univ fun c : Dev nD => iprop(unscopedBufs c (fun b => m ((c : Thread nD τ).loc b)) ∗ unscopedSems0 c
          ∗ owes (c : Thread nD τ) (owing (dues c)) ∅ ∗ Pipeline.launchCred (fun c => owing (dues c)) c ∗ prngReg c (ρ c) ∗ G c)) ∗ levAts L lv)
      ⊢ (|={Set.univ}=> bigSep Finset.univ (T₀ m) : sProp 𝕄) := by
  have hcores := (bigSep_mono (s := Finset.univ) fun (c : Dev nD) _ => start_core m ρ c).trans (Entails.of_eq
    ((bigSep_sep' _ _ _).trans (congrArg _ ((bigSep_sep' _ _ _).trans (congrArg₂ _ deal_sems bigSep_G)))))
  iintro ⟨H, -⟩
  ihave H := (show (bigSep Finset.univ fun c : Dev nD => iprop(unscopedBufs c (fun b => m ((c : Thread nD τ).loc b)) ∗ unscopedSems0 c
          ∗ owes (c : Thread nD τ) (owing (dues c)) ∅ ∗ Pipeline.launchCred (fun c => owing (dues c)) c ∗ prngReg c (ρ c) ∗ G c))
      ⊢ (iprop(bigSep Finset.univ (bundle m) ∗ (bigSep barCells fun g => semVal g 0) ∗ BI.own (ER (launchOf barCells dmaCells pays))) : sProp 𝕄) from hcores) $$ H
  icases H with ⟨HB, Hv, Hu⟩
  imod (Rounds.fund_launch ER (gatherRd (opX m) (opW m)) cells_disjoint (fun g _ h => h) pays) $$ [Hv Hu] with ⟨%κ, -, #Hinv, #Hr, Hat, Hopen, Htok⟩
  · isplitl [Hv]; · iexact Hv
    iexact Hu
  imodintro
  iapply (bigSep_with_persistent (R := records (opX m) (opW m) κ) (Φ := fun c => iprop(linear c ∗ bundle m c)) fun c _ => T₀_intro m κ c)
  isplitr
  · unfold records
    isplitr; · iexact Hinv
    iexact Hr
  unfold linear
  rw [bigSep_sep', bigSep_sep', bigSep_sep']
  isplitr [HB]
  · isplitl [Hat]; · iapply (Entails.of_eq (deal_pos (F := F))) $$ Hat
    isplitl [Hopen]; · iapply (Entails.of_eq (deal_open (F := F))) $$ Hopen
    iapply (Entails.of_eq (deal_pays (F := F))) $$ Htok
  · iexact HB

/-! ## The run -/

theorem unscoped_bar : ∀ sm : SemLoc sig, sm.isScoped .tc = false → sm = .reg barS := by decide

theorem mem_uc (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; decide⟩

set_option backward.isDefEq.respectTransparency.types false in
/-- From any memory with zero counters every weakly fair execution of the program terminates, and every final memory has on
    each device the arguments as they were, the result as the product's proof data leave it, and every counter at zero. -/
theorem run_main : θ_run defs (onTc (τ := τ) (main (F := F))) ⟨m, fun _ => 0, ρ⟩
    (fun r => (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.mem ((c.tc : Thread nD τ).loc main_v2) = (datG m c).arrAt 4 cfg1.N) ∧ r.2.sem = fun _ => 0) :=
  Pipeline.θ_run_regions_kit_sems (pcfgs (F := F)) adm (pds m) () cellOf_inj EP defs₀ 𝒱₀ L lv m ρ main [.region (reg0 m), .region (reg1 m)]
    (fun c Q => by
      rewrite [main_chain c, Pipeline.Seg.run_eq_chain,
        show ([.region (reg0 m), .region (reg1 m)] : List (Pipeline.Seg (pcfgs (F := F)) adm (pds m) () defs₀ 𝒱₀ L lv)).map Pipeline.Seg.prog = [
          Prog.lift (.customCall (Pipeline.entry 0) ()),
          Prog.lift (.customCall (Pipeline.entry 1) ()) ] from rfl]
      exact .rfl)
    (by simp only [Pipeline.Seg.pipes_host, Pipeline.Seg.pipes_region, Pipeline.Seg.pipes_nil]; decide)
    (O₀ := fun c => owing (dues c)) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => reg0_pre m c, fun c => (reg0_post m c).trans (reg1_pre m c), fun c => (reg1_post m c).trans (by
      unfold E1
      iintro ⟨Hh, -, HO, HY⟩
      isplitr [HO]
      · isplitl [Hh] <;> iassumption
      · iexact HO)⟩)
    (hinit := start_all m ρ)
    (QY := fun c s => (∀ b ∈ Pipeline.ucRefs τ sig, s.mem (c, b) = V2 m (outs m) c b) ∧ s.sem (barCell c) = 0)
    (hfin := fun c s' => by
      dsimp only [Tₙ]
      unfold StableHlo.held Yk
      iintro ⟨⟨Hh, Hb⟩, HSI⟩
      icombine HSI Hb gives %hb
      ihave Hr := (pointsTo_read_all (Pipeline.ucRefs τ sig) (fun b => ((c : Thread nD τ).1, b)) (V2 m (outs m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => by
        have hm := (h c).1
        exact ⟨⟨(hm _ (mem_uc main_arg0 rfl)).trans (V2_main_arg0 m (outs m) c), (hm _ (mem_uc main_arg1 rfl)).trans (V2_main_arg1 m (outs m) c),
          (hm _ (mem_uc main_arg2 rfl)).trans (V2_main_arg2 m (outs m) c), (hm _ (mem_uc main_arg3 rfl)).trans (V2_main_arg3 m (outs m) c)⟩,
          (hm _ (mem_uc main_v2 rfl)).trans ((V2_at_main_v2 m (outs m) c).trans (outs_v2 m c))⟩,
      sem_eq_zero hs fun c sm hsm => by
        obtain rfl := unscoped_bar sm hsm
        exact (h c).2⟩)

end Cert.Proof
-- ==== Proof.Frames.lean ====
module

public import proofs.«01_k».proof.Defs
public import proofs.«01_k».proof.Proof.Launch
public import proofs.«01_k».proof.Proof.Gen.Kernel
public import proofs.«01_k».proof.Proof.Gen.ReferenceIdeal.Frame

@[expose] public section

noncomputable section

namespace Cert.Proof

open Idealize.ShloMosaic Idealize.ShloMosaic.TcCoe Idealize.SL Idealize.SL.Sem

/-- The two prints' bodies are the same programs. -/
theorem bodies_same : (@Cert.Kernel.defs₀ Bits _ _) = @Cert.KernelIdeal.defs₀ Bits _ _ := by
  unfold Cert.Kernel.defs₀ Cert.KernelIdeal.defs₀
  refine congrArg Defs.onTc (funext fun ℓ => funext fun a => ?_)
  match ℓ, a with
  | (0 : Fin 2), (t, s) => rfl
  | (1 : Fin 2), (t, s) => rfl

/-- The two prints' body tables, their pipelines adjoined, are the same. -/
theorem tables_same : (@Cert.Kernel.defs Bits _ _) = @Cert.KernelIdeal.defs Bits _ _ :=
  congrArg (Pipeline.defs Cert.KernelIdeal.pcfgs) bodies_same

/-- The two prints' main functions are the same program. -/
theorem mains_same : (@Cert.Kernel.main Bits _) = @Cert.KernelIdeal.main Bits _ := rfl

/-- At the chip's floats every device's run of the printed kernel ends, with the operands as they
    were and every semaphore at zero. -/
theorem frame_kernel : Cert.quiescent_Kernel := fun m ρ _ => by
  rw [tables_same, mains_same]
  exact (θ_run Cert.KernelIdeal.defs _ _).mono (fun _ h => ⟨fun c => (h.1 c).1, h.2⟩) (run_main (F := Bits) m ρ)

/-- So does the kernel at ideal numbers. -/
theorem frame_kernelIdeal : Cert.quiescent_KernelIdeal := fun m ρ _ =>
  (θ_run Cert.KernelIdeal.defs _ _).mono (fun _ h => ⟨fun c => (h.1 c).1, h.2⟩) (run_main (F := Ideal) m ρ)

/-- So does the reference. -/
theorem frame_reference : Cert.quiescent_ReferenceIdeal := fun m ρ _ => Cert.ReferenceIdeal.Gen.frame m ρ

end Cert.Proof
-- ==== Proof.RefValue.lean ====
module

public import proofs.«01_k».proof.Proof.Gen.ReferenceIdeal.Value
public import Idealize.ShloMosaic.Lib.Pipeline.ValueKit
public import Idealize.ShloMosaic.Lib.MatmulPlain
public import Idealize.ShloMosaic.Lib.Pipeline.ReadBack

@[expose] public section

noncomputable section

namespace Cert.Proof

open Cert.ReferenceIdeal Cert.ReferenceIdeal.Gen
open Idealize.ShloMosaic Idealize.ShloMosaic.TcCoe Idealize.SL.Sem
open Idealize.ShloMosaic.Pipeline (Dat)

/-- One element of the problem's result: row `r` of `x` times column `c` of `w`, scaled, and not below zero. -/
def wantAt (X : (⟨2, ![4096, 4096]⟩ : Shape).Idx → EReal) (W : (⟨2, ![4096, 8192]⟩ : Shape).Idx → EReal)
    (sx sw : EReal) (r : Fin 4096) (c : Fin 8192) : EReal :=
  max ((∑ k : Fin 4096, X (ix2 r k) * W (ix2 k c)) * (sx * sw)) 0

/-- What the reference stores, read at row `r` and column `c`. -/
theorem ref_pay_apply (X : Vec Ideal S4096x4096 .fp8e5m2) (W : Vec Ideal S4096x8192 .fp8e5m2) (sx sw : Elt Ideal .f32)
    (r : Fin 4096) (c : Fin 8192) : k0_pay1 (F := Ideal) X W sx sw (ix2 r c) = wantAt X W sx sw r c := by
  unfold k0_pay1 wantAt
  have e : dot_S4096x4096_S4096x8192_S4096x8192_1_0_0_1_n_n = DotDims.plain 4096 4096 8192 := rfl
  show max (FloatOps.matmul (F := Ideal) dot_S4096x4096_S4096x8192_S4096x8192_1_0_0_1_n_n none X W
      (constant S4096x8192 .f32 0x00000000#32) (ix2 r c) * (sx * sw)) (Ideal.ofBits .f32 0x00000000#32) = _
  rw [e, show FloatOps.matmul (F := Ideal) (DotDims.plain 4096 4096 8192) none X W (constant S4096x8192 .f32 0x00000000#32) (ix2 r c) = _
    from Ideal.matmul_plain_apply none X W _ r c]
  show max ((Ideal.ofBits .f32 0x00000000#32 + _) * (sx * sw)) (Ideal.ofBits .f32 0x00000000#32) = _
  rw [Ideal.ofBits_zero_f32, zero_add]
  rfl

/-- An array of one element has one index. -/
theorem one_idx (i : (⟨1, ![1]⟩ : Shape).Idx) : i = ix1 0 :=
  (eq_ix1 i).trans (congrArg ix1 (Subsingleton.elim (α := Fin 1) _ _))

variable (m : (ℓ : Loc nD τ sig) → Buf (Elt Ideal) ℓ)

/-- Every block of the reference is the first of its array. -/
theorem ref_idx : win0_0.index t0_0 = ![0, 0] ∧ win0_1.index t0_0 = ![0, 0] ∧ win0_2.index t0_0 = ![0] ∧ win0_3.index t0_0 = ![0] := by
  decide +kernel

/-- The reference's four blocks are its four operands, whole. -/
theorem ref_blk0 (c : Dev nD) : iblk m c 0 t0_0 = m ((c : Thread nD τ).loc main_arg0) := by
  funext y; blk_ext [iblk, V, ref_idx]
theorem ref_blk1 (c : Dev nD) : iblk m c 1 t0_0 = m ((c : Thread nD τ).loc main_arg1) := by
  funext y; blk_ext [iblk, V, ref_idx]
theorem ref_blk2 (c : Dev nD) : iblk m c 2 t0_0 = m ((c : Thread nD τ).loc main_arg2) := by
  funext y; blk_ext [iblk, V, ref_idx]
theorem ref_blk3 (c : Dev nD) : iblk m c 3 t0_0 = m ((c : Thread nD τ).loc main_arg3) := by
  funext y; blk_ext [iblk, V, ref_idx]

/-- The reference's result array after its run. -/
theorem ref_final (c : Dev nD) : (dats m 0 c).arrAt 4 cfg0.N
    = fun i => wantAt (m ((c : Thread nD τ).loc main_arg0)) (m ((c : Thread nD τ).loc main_arg1))
        (m ((c : Thread nD τ).loc main_arg2) (ix1 0)) (m ((c : Thread nD τ).loc main_arg3) (ix1 0)) (i 0) (i 1) := by
  refine (dats m 0 c).arrAt_eq_of_after_last 4 t0_0 (by decide +kernel) _ fun j => ?_
  blk_simp
  rw [after0_4]
  unfold outsAt0
  frame_out
  simp only [read_unread_whole]
  rw [ref_blk0, ref_blk1, ref_blk2, ref_blk3]
  rw [one_idx (Shape.Idx.first _)]
  exact (congrArg _ (eq_ix2 j)).trans (ref_pay_apply _ _ _ _ (j 0) (j 1))

end Cert.Proof
-- ==== Proof.GemmValue.lean ====
module

public import proofs.«01_k».proof.Proof.Gen.Own.KernelIdeal.K1.Frame
public import proofs.«01_k».proof.Proof.RefValue
public import Idealize.ShloMosaic.Lib.ValueLayout

@[expose] public section

noncomputable section

namespace Cert.Proof

open Cert.KernelIdeal Cert.KernelIdeal.Gen Cert.KernelIdeal.Own
open Idealize.ShloMosaic Idealize.ShloMosaic.TcCoe Idealize.SL Idealize.SL.RA Idealize.SL.Sem
open Idealize.ShloMosaic.Pipeline (Dat)

/-- One device's partial product at row `r` and column `c`: part `p` of the stacked operands. -/
def partAt {R C : ℕ} (X : (⟨3, ![4, R, 1024]⟩ : Shape).Idx → EReal) (W : (⟨3, ![4, 1024, C]⟩ : Shape).Idx → EReal)
    (p : Fin 4) (r : Fin R) (c : Fin C) : EReal := ∑ k : Fin 1024, X (ix3 p r k) * W (ix3 p k c)

/-- One element of the product over stacked operands: the four partial products added, scaled, and not below zero. -/
def gemmAt {R C : ℕ} (X : (⟨3, ![4, R, 1024]⟩ : Shape).Idx → EReal) (W : (⟨3, ![4, 1024, C]⟩ : Shape).Idx → EReal)
    (sx sw : EReal) (r : Fin R) (c : Fin C) : EReal :=
  max ((∑ p : Fin 4, partAt X W p r c) * (sx * sw)) 0

/-- One partial product of the body, over two loaded slices with a leading axis of one. -/
theorem slice_dot (x w : Vec Ideal S1x1024x1024 .fp8e5m2) (h h' : S1x1024x1024.ShapeCasts S1024x1024) (r c : Fin 1024) :
    FloatOps.matmul (F := Ideal) dot_S1024x1024_S1024x1024_S1024x1024_1_0_0_1_n_n none
        (shapeCast S1024x1024 x h : FVec Ideal S1024x1024 .fp8e5m2) (shapeCast S1024x1024 w h' : FVec Ideal S1024x1024 .fp8e5m2)
        (constant S1024x1024 .f32 0x00000000#32) (ix2 r c)
      = ∑ k : Fin 1024, (x (ix3 0 r k) : EReal) * w (ix3 0 k c) := by
  have e : dot_S1024x1024_S1024x1024_S1024x1024_1_0_0_1_n_n = DotDims.plain 1024 1024 1024 := rfl
  have hx : ∀ a b : Fin 1024, shapeCast S1024x1024 x h (ix2 a b) = x (ix3 0 a b) := fun a b => by
    unfold shapeCast; exact congrArg x (ValueIdx.reshapeEquiv_ix2_1ab _ a b)
  have hw : ∀ a b : Fin 1024, shapeCast S1024x1024 w h' (ix2 a b) = w (ix3 0 a b) := fun a b => by
    unfold shapeCast; exact congrArg w (ValueIdx.reshapeEquiv_ix2_1ab _ a b)
  rw [e]
  refine (Ideal.matmul_plain_apply none _ _ _ r c).trans ?_
  show Ideal.ofBits .f32 0x00000000#32 + _ = _
  rw [Ideal.ofBits_zero_f32, zero_add]
  exact Finset.sum_congr rfl fun k _ => congrArg₂ (· * ·) (hx r k) (hw k c)

/-- What the product's body stores, read at row `r` and column `c` of its block. -/
theorem gemm_pay_apply (sx sw : Elt Ideal .f32) (x0 w0 x1 w1 x2 w2 x3 w3 : Vec Ideal S1x1024x1024 .fp8e5m2) (r c : Fin 1024) :
    k1_pay1 (F := Ideal) (k1_pay2 (F := Ideal) sx sw x0 w0 x1 w1 x2 w2 x3 w3) (ix2 r c)
      = max ((((∑ k : Fin 1024, (x0 (ix3 0 r k) : EReal) * w0 (ix3 0 k c)) + ∑ k : Fin 1024, (x1 (ix3 0 r k) : EReal) * w1 (ix3 0 k c))
          + (∑ k : Fin 1024, (x2 (ix3 0 r k) : EReal) * w2 (ix3 0 k c)) + ∑ k : Fin 1024, (x3 (ix3 0 r k) : EReal) * w3 (ix3 0 k c))
            * ((sx : EReal) * sw)) 0 := by
  unfold k1_pay1 k1_pay2
  rw [← slice_dot x0 w0 shapeCasts_S1x1024x1024_S1024x1024 shapeCasts_S1x1024x1024_S1024x1024 r c,
    ← slice_dot x1 w1 shapeCasts_S1x1024x1024_S1024x1024 shapeCasts_S1x1024x1024_S1024x1024 r c,
    ← slice_dot x2 w2 shapeCasts_S1x1024x1024_S1024x1024 shapeCasts_S1x1024x1024_S1024x1024 r c,
    ← slice_dot x3 w3 shapeCasts_S1x1024x1024_S1024x1024 shapeCasts_S1x1024x1024_S1024x1024 r c]
  rw [← Ideal.ofBits_zero_f32]
  rfl

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- Which block of each array a grid point works on: eight points to a row of blocks. -/
theorem gemm_idx : ∀ t : Fin cfg1.N, win1_0.index t = ![0, t.val / 8, 0] ∧ win1_1.index t = ![0, 0, t.val % 8]
    ∧ win1_2.index t = ![0] ∧ win1_3.index t = ![0] ∧ win1_4.index t = ![t.val / 8, t.val % 8] := by
  decide +kernel

/-- Slice `p` of the first operand's block, read in the array. -/
theorem load_x (c : Dev nD) (t : Fin cfg1.N) (p : Fin 4) (inb) (r k : Fin 1024) (R : Fin 4096) (hR : R.val = t.val / 8 * 1024 + r.val) :
    View.ld (S := S4x1024x1024) (K1.iblk V c 0 t) (Rect.unit ![p.val, 0, 0] ![1, 1024, 1024] inb) (ix3 0 r k) = V c main_v1_0 (ix3 p R k) := by
  refine (View.ld_unit_apply_of _ _ _ _ _ (ix3 p r k : S4x1024x1024.Idx) fun a => ?_).trans ?_
  · match a with
    | ⟨0, _⟩ => exact (Nat.add_zero _).symm
    | ⟨1, _⟩ => exact (Nat.zero_add _).symm
    | ⟨2, _⟩ => exact (Nat.zero_add _).symm
  · blk_ext [K1.iblk, gemm_idx t]

/-- Slice `p` of the second operand's block, read in the array. -/
theorem load_w (c : Dev nD) (t : Fin cfg1.N) (p : Fin 4) (inb) (k q : Fin 1024) (Q : Fin 8192) (hQ : Q.val = t.val % 8 * 1024 + q.val) :
    View.ld (S := S4x1024x1024) (K1.iblk V c 1 t) (Rect.unit ![p.val, 0, 0] ![1, 1024, 1024] inb) (ix3 0 k q) = V c main_v1_1 (ix3 p k Q) := by
  refine (View.ld_unit_apply_of _ _ _ _ _ (ix3 p k q : S4x1024x1024.Idx) fun a => ?_).trans ?_
  · match a with
    | ⟨0, _⟩ => exact (Nat.add_zero _).symm
    | ⟨1, _⟩ => exact (Nat.zero_add _).symm
    | ⟨2, _⟩ => exact (Nat.zero_add _).symm
  · blk_ext [K1.iblk, gemm_idx t]

/-- The scales are read whole. -/
theorem load_sx (c : Dev nD) (t : Fin cfg1.N) (inb) (i : S1.Idx) :
    View.ld (S := S1) (K1.iblk V c 2 t) (Rect.unit ![0] ![1] inb) i = V c main_arg2 (ix1 0) := by
  rw [View.ld_apply]
  blk_ext [K1.iblk, gemm_idx t]
theorem load_sw (c : Dev nD) (t : Fin cfg1.N) (inb) (i : S1.Idx) :
    View.ld (S := S1) (K1.iblk V c 3 t) (Rect.unit ![0] ![1] inb) i = V c main_arg3 (ix1 0) := by
  rw [View.ld_apply]
  blk_ext [K1.iblk, gemm_idx t]

/-- The product's result array after its region, from the stacked operands and the scales that it is entered on. -/
theorem gemm_final (c : Dev nD) : (K1.dat (U := U) (Lvl := Lvl) 𝒱₀ V D c).arrAt 4 cfg1.N
    = fun i => gemmAt (V c main_v1_0) (V c main_v1_1) (V c main_arg2 (ix1 0)) (V c main_arg3 (ix1 0)) (i 0) (i 1) := by
  refine (K1.dat (U := U) (Lvl := Lvl) 𝒱₀ V D c).arrAt_eq_of_covers 4 _ (by decide +kernel) fun t hf y => ?_
  blk_simp
  rw [K1.after1_4]
  unfold K1.outsAt1
  frame_out
  have h0 : (((View.whole main_v2).slice (win1_4.rect t)).emb y 0 : Fin 4096).val = t.val / 8 * 1024 + (y 0).val := by
    blk_simp [gemm_idx t]
  have h1 : (((View.whole main_v2).slice (win1_4.rect t)).emb y 1 : Fin 8192).val = t.val % 8 * 1024 + (y 1).val := by
    blk_simp [gemm_idx t]
  generalize (((View.whole main_v2).slice (win1_4.rect t)).emb y 0 : Fin 4096) = R at h0 ⊢
  generalize (((View.whole main_v2).slice (win1_4.rect t)).emb y 1 : Fin 8192) = Q at h1 ⊢
  refine ((congrArg _ (eq_ix2 (n0 := 1024) (n1 := 1024) y)).trans (gemm_pay_apply _ _ _ _ _ _ _ _ _ _ (y 0) (y 1))).trans ?_
  unfold gemmAt partAt
  rw [Fin.sum_univ_four]
  refine congrArg₂ max (congrArg₂ (· * ·) ?_ (congrArg₂ (· * ·) (load_sx V c t _ _) (load_sw V c t _ _))) rfl
  refine congrArg₂ (· + ·) (congrArg₂ (· + ·) (congrArg₂ (· + ·) ?_ ?_) ?_) ?_
  · exact Finset.sum_congr rfl fun k _ => congrArg₂ (· * ·) (load_x V c t 0 _ (y 0) k R h0) (load_w V c t 0 _ k (y 1) Q h1)
  · exact Finset.sum_congr rfl fun k _ => congrArg₂ (· * ·) (load_x V c t 1 _ (y 0) k R h0) (load_w V c t 1 _ k (y 1) Q h1)
  · exact Finset.sum_congr rfl fun k _ => congrArg₂ (· * ·) (load_x V c t 2 _ (y 0) k R h0) (load_w V c t 2 _ k (y 1) Q h1)
  · exact Finset.sum_congr rfl fun k _ => congrArg₂ (· * ·) (load_x V c t 3 _ (y 0) k R h0) (load_w V c t 3 _ k (y 1) Q h1)

end Cert.Proof
-- ==== Proof.Algebra.lean ====
module

public import proofs.«01_k».proof.Proof.Frames
public import proofs.«01_k».proof.Proof.GemmValue

@[expose] public section

noncomputable section

namespace Cert.Proof

open Cert.KernelIdeal Cert.KernelIdeal.Gen Cert.KernelIdeal.Own
open Idealize.ShloMosaic Idealize.ShloMosaic.TcCoe Idealize.SL Idealize.SL.RA Idealize.SL.Sem

/-! ## The blocks' products added are the whole product -/

/-- Column `k` of device `p`'s block of `x` is column `p · 1024 + k` of `x`. -/
theorem block_x (X : (⟨2, ![4096, 4096]⟩ : Shape).Idx → EReal) (p : Fin 4) (r : Fin 4096) (k : Fin 1024) (hk) :
    Layout.block ⟨2, ![4096, 1024]⟩ ⟨2, ![4096, 4096]⟩ 1 4 p X (by decide) (ix2 r k) = X (ix2 r ⟨p.val * 1024 + k.val, hk⟩) := by
  rw [Layout.block_apply]
  refine congrArg X (funext fun a => Fin.ext ?_)
  match a with
  | ⟨0, _⟩ => exact Layout.Tiles.idx_val _ _ _ _
  | ⟨1, _⟩ => exact Layout.Tiles.idx_val _ _ _ _

/-- Row `k` of device `p`'s block of `w` is row `p · 1024 + k` of `w`. -/
theorem block_w (W : (⟨2, ![4096, 8192]⟩ : Shape).Idx → EReal) (p : Fin 4) (k : Fin 1024) (c : Fin 8192) (hk) :
    Layout.block ⟨2, ![1024, 8192]⟩ ⟨2, ![4096, 8192]⟩ 0 4 p W (by decide) (ix2 k c) = W (ix2 ⟨p.val * 1024 + k.val, hk⟩ c) := by
  rw [Layout.block_apply]
  refine congrArg W (funext fun a => Fin.ext ?_)
  match a with
  | ⟨0, _⟩ => exact Layout.Tiles.idx_val _ _ _ _
  | ⟨1, _⟩ => exact Layout.Tiles.idx_val _ _ _ _

/-- The product over the stacked blocks of `x` and `w` is the product of `x` and `w`. -/
theorem gemm_blocks (X : (⟨2, ![4096, 4096]⟩ : Shape).Idx → EReal) (W : (⟨2, ![4096, 8192]⟩ : Shape).Idx → EReal)
    (xs : Fin 4 → (⟨2, ![4096, 1024]⟩ : Shape).Idx → EReal) (ws : Fin 4 → (⟨2, ![1024, 8192]⟩ : Shape).Idx → EReal)
    (hx : ∀ p, xs p = Layout.block ⟨2, ![4096, 1024]⟩ ⟨2, ![4096, 4096]⟩ 1 4 p X)
    (hw : ∀ p, ws p = Layout.block ⟨2, ![1024, 8192]⟩ ⟨2, ![4096, 8192]⟩ 0 4 p W)
    (sx sw : EReal) (r : Fin 4096) (c : Fin 8192) :
    gemmAt (R := 4096) (C := 8192) (fun i => xs (i 0) (ix2 (i 1) (i 2))) (fun i => ws (i 0) (ix2 (i 1) (i 2))) sx sw r c = wantAt X W sx sw r c := by
  unfold gemmAt partAt wantAt
  rw [← Fin.sum_mul_add_fin 4 1024 fun k : Fin 4096 => X (ix2 r k) * W (ix2 k c)]
  refine congrArg₂ max (congrArg₂ (· * ·) (Finset.sum_congr rfl fun p _ => Finset.sum_congr rfl fun k _ => ?_) rfl) rfl
  exact congrArg₂ (· * ·) ((congrFun (hx p) (ix2 r k)).trans (block_x X p r k _)) ((congrFun (hw p) (ix2 k c)).trans (block_w W p k c _))

/-! ## The two runs -/

variable (m : (ℓ : Loc nD τ sig) → Buf (Elt Ideal) ℓ)

/-- The kernel's result array on every device: the product over the gathered operands. -/
theorem kernel_final (c : Dev nD) : (datG m c).arrAt 4 cfg1.N
    = fun i => gemmAt (R := 4096) (C := 8192) (gatherX (opX m)) (gatherW (opW m))
        (m ((c.tc : Thread nD τ).loc main_arg2) (ix1 0)) (m ((c.tc : Thread nD τ).loc main_arg3) (ix1 0)) (i 0) (i 1) := by
  have hx : Ve1 m (outsA m) c main_v1_0 = gatherX (opX m) := V1_v1_0 m c
  have hw : Ve1 m (outsA m) c main_v1_1 = gatherW (opW m) := V1_v1_1 m c
  have hsx : Ve1 m (outsA m) c main_arg2 = m ((c.tc : Thread nD τ).loc main_arg2) := V1_of m (outsA m) c main_arg2 (by decide)
  have hsw : Ve1 m (outsA m) c main_arg3 = m ((c.tc : Thread nD τ).loc main_arg3) := V1_of m (outsA m) c main_arg3 (by decide)
  unfold datG
  rw [gemm_final, hx, hw, hsx, hsw]

/-- Over the extended reals every device of the kernel ends with the reference's whole result. -/
theorem algebraic : Cert.algebraic_KernelIdeal_ReferenceIdeal := by
  intro m g m' g' _ hag
  have hR := ref_final m' 0
  refine ⟨fun i => wantAt (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2) (ix1 0))
      (m' (((0 : Dev Cert.ReferenceIdeal.nD).tc : Thread _ Cert.ReferenceIdeal.τ).loc Cert.ReferenceIdeal.main_arg3) (ix1 0)) (i 0) (i 1), ?_, ?_⟩
  · refine (θ_run Cert.KernelIdeal.defs _ _).mono (fun r h c => ⟨?_, (h.1 c).1⟩) (run_main (F := Ideal) m g)
    refine ((h.1 c).2.trans (kernel_final m c)).trans (funext fun i => ?_)
    rw [(hag c).2.2.1, (hag c).2.2.2]
    exact gemm_blocks _ _ (opX m) (opW m) (fun p => (hag p).1) (fun p => (hag p).2.1) _ _ (i 0) (i 1)
  · exact (θ_run Cert.ReferenceIdeal.defs _ _).mono (fun r h => ⟨(h 0).1.trans hR, (h 0).2⟩) (Cert.ReferenceIdeal.Value.run_blocks m' g')

end Cert.Proof
-- ==== Proof.lean ====
module

public import proofs.«01_k».proof.Defs
public import proofs.«01_k».proof.Proof.Frames
public import proofs.«01_k».proof.Proof.Algebra
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Own.KernelIdeal.K1.Frame
public import proofs.«01_k».proof.Proof.Gen.Own.KernelIdeal.RegionsD
public import Idealize.ShloMosaic.Adequacy
public import Idealize.ShloMosaic.Init

@[expose] public section

noncomputable section

namespace Cert.Proof

open Idealize.ShloMosaic Idealize.SL.Sem Cert.Kernel

/-- Every claim: the three programs end with their arguments unchanged and every semaphore at zero,
    the ideal program is the kernel, and over the extended reals every device of the kernel ends with
    the reference's result. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
